-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_coords [hPre_finite_coords : Cert.Pre_finite_coords.Facts] (m : (ℓ : Loc Cert.KernelIdeal.nD Cert.KernelIdeal.τ Cert.KernelIdeal.sig) → Buf (Elt Ideal) ℓ) : Prop :=
  ∀ c : Dev Cert.KernelIdeal.nD,
    (Cert.Pre_finite_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_coords [hPre_finite_coords : Cert.Pre_finite_coords.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_coords.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_RowsIdeal [hPre_idx_in_rows : Cert.Pre_idx_in_rows.Facts] (m : (ℓ : Loc Cert.RowsIdeal.nD Cert.RowsIdeal.τ Cert.RowsIdeal.sig) → Buf (Elt Ideal) ℓ) : Prop :=
  ∀ c : Dev Cert.RowsIdeal.nD,
    (Cert.Pre_idx_in_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite_points [hPre_finite_points : Cert.Pre_finite_points.Facts] (m : (ℓ : Loc Cert.NearestIdeal.nD Cert.NearestIdeal.τ Cert.NearestIdeal.sig) → Buf (Elt Ideal) ℓ) : Prop :=
  ∀ c : Dev Cert.NearestIdeal.nD,
    (Cert.Pre_finite_points.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_PlacesIdeal (m : (ℓ : Loc Cert.PlacesIdeal.nD Cert.PlacesIdeal.τ Cert.PlacesIdeal.sig) → Buf (Elt Ideal) ℓ) : Prop :=
  True

def Pre_PlacesIdeal_finite_points [hPre_finite_points : Cert.Pre_finite_points.Facts] (m : (ℓ : Loc Cert.PlacesIdeal.nD Cert.PlacesIdeal.τ Cert.PlacesIdeal.sig) → Buf (Elt Ideal) ℓ) : Prop :=
  ∀ c : Dev Cert.PlacesIdeal.nD,
    (Cert.Pre_finite_points.fn (F := Ideal) (m ((c.tc : Thread Cert.PlacesIdeal.nD Cert.PlacesIdeal.τ).loc Cert.PlacesIdeal.main_arg0)) (m ((c.tc : Thread Cert.PlacesIdeal.nD Cert.PlacesIdeal.τ).loc Cert.PlacesIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_coords [hKernelIdeal : Cert.KernelIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_coords m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_coords [hReferenceIdeal : Cert.ReferenceIdeal.Facts] [hPre_finite_coords : Cert.Pre_finite_coords.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_coords m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_RowsIdeal [hRowsIdeal : Cert.RowsIdeal.Facts] [hPre_idx_in_rows : Cert.Pre_idx_in_rows.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite_points [hNearestIdeal : Cert.NearestIdeal.Facts] [hPre_finite_points : Cert.Pre_finite_points.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite_points m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_PlacesIdeal [hPlacesIdeal : Cert.PlacesIdeal.Facts] : Prop :=
  ∀ (m : (ℓ : Loc Cert.PlacesIdeal.nD Cert.PlacesIdeal.τ Cert.PlacesIdeal.sig) → Buf (Elt Ideal) ℓ) (g : Dev Cert.PlacesIdeal.nD → PrngReg), Pre_PlacesIdeal m →
    θ_run (Cert.PlacesIdeal.defs (F := Ideal)) (onTc (τ := Cert.PlacesIdeal.τ) (Cert.PlacesIdeal.main (F := Ideal))) ⟨m, fun _ => 0, g⟩ (fun r => (∀ c : Dev Cert.PlacesIdeal.nD,
      r.2.mem ((c.tc : Thread Cert.PlacesIdeal.nD Cert.PlacesIdeal.τ).loc Cert.PlacesIdeal.main_arg0) = m ((c.tc : Thread Cert.PlacesIdeal.nD Cert.PlacesIdeal.τ).loc Cert.PlacesIdeal.main_arg0)
      ∧ r.2.mem ((c.tc : Thread Cert.PlacesIdeal.nD Cert.PlacesIdeal.τ).loc Cert.PlacesIdeal.main_arg1) = m ((c.tc : Thread Cert.PlacesIdeal.nD Cert.PlacesIdeal.τ).loc Cert.PlacesIdeal.main_arg1))
      ∧ r.2.sem = fun _ => 0)

def quiescent_PlacesIdeal_pre_finite_points [hPlacesIdeal : Cert.PlacesIdeal.Facts] [hPre_finite_points : Cert.Pre_finite_points.Facts] : Prop :=
  ∀ (m : (ℓ : Loc Cert.PlacesIdeal.nD Cert.PlacesIdeal.τ Cert.PlacesIdeal.sig) → Buf (Elt Ideal) ℓ) (g : Dev Cert.PlacesIdeal.nD → PrngReg), Pre_PlacesIdeal_finite_points m →
    θ_run (Cert.PlacesIdeal.defs (F := Ideal)) (onTc (τ := Cert.PlacesIdeal.τ) (Cert.PlacesIdeal.main (F := Ideal))) ⟨m, fun _ => 0, g⟩ (fun r => (∀ c : Dev Cert.PlacesIdeal.nD,
      r.2.mem ((c.tc : Thread Cert.PlacesIdeal.nD Cert.PlacesIdeal.τ).loc Cert.PlacesIdeal.main_arg0) = m ((c.tc : Thread Cert.PlacesIdeal.nD Cert.PlacesIdeal.τ).loc Cert.PlacesIdeal.main_arg0)
      ∧ r.2.mem ((c.tc : Thread Cert.PlacesIdeal.nD Cert.PlacesIdeal.τ).loc Cert.PlacesIdeal.main_arg1) = m ((c.tc : Thread Cert.PlacesIdeal.nD Cert.PlacesIdeal.τ).loc Cert.PlacesIdeal.main_arg1))
      ∧ r.2.sem = fun _ => 0)

def algebraic_KernelIdeal_ReferenceIdeal_pre_finite_coords [hKernelIdeal : Cert.KernelIdeal.Facts] [hReferenceIdeal : Cert.ReferenceIdeal.Facts] [hPre_finite_coords : Cert.Pre_finite_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_coords m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gather_GatherIdeal : Prop :=
  True

def algebraic_GatherIdeal_RowsIdeal [hGatherIdeal : Cert.GatherIdeal.Facts] [hRowsIdeal : Cert.RowsIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)
      ∧ m' ((c.tc : Thread Cert.RowsIdeal.nD Cert.RowsIdeal.τ).loc Cert.RowsIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v8)) (v1 : (c : Dev Cert.GatherIdeal.nD) → Buf (Elt Ideal) ((c.tc : Thread Cert.GatherIdeal.nD Cert.GatherIdeal.τ).loc Cert.GatherIdeal.main_v9)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v8) = v0 c
          ∧ r.2.mem ((c.tc : Thread Cert.GatherIdeal.nD Cert.GatherIdeal.τ).loc Cert.GatherIdeal.main_v9) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v8) = v0 c
          ∧ r.2.mem ((c.tc : Thread Cert.RowsIdeal.nD Cert.RowsIdeal.τ).loc Cert.RowsIdeal.main_v17) = v1 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m' ((c.tc : Thread Cert.RowsIdeal.nD Cert.RowsIdeal.τ).loc Cert.RowsIdeal.main_arg2))

def preserves_Nearest_NearestIdeal : Prop :=
  True

def algebraic_NearestIdeal_PlacesIdeal_pre_finite_points [hNearestIdeal : Cert.NearestIdeal.Facts] [hPlacesIdeal : Cert.PlacesIdeal.Facts] [hPre_finite_points : Cert.Pre_finite_points.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.PlacesIdeal.nD Cert.PlacesIdeal.τ Cert.PlacesIdeal.sig) → Buf (Elt Ideal) ℓ) (g' : Dev Cert.PlacesIdeal.nD → PrngReg), Pre_NearestIdeal_finite_points m →
    (∀ c : Dev Cert.NearestIdeal.nD,
      m' ((c.tc : Thread Cert.PlacesIdeal.nD Cert.PlacesIdeal.τ).loc Cert.PlacesIdeal.main_arg0) = m ((c.tc : Thread Cert.NearestIdeal.nD Cert.NearestIdeal.τ).loc Cert.NearestIdeal.main_arg0)
      ∧ m' ((c.tc : Thread Cert.PlacesIdeal.nD Cert.PlacesIdeal.τ).loc Cert.PlacesIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v0)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v0) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.PlacesIdeal.defs (F := Ideal)) (onTc (τ := Cert.PlacesIdeal.τ) (Cert.PlacesIdeal.main (F := Ideal))) ⟨m', fun _ => 0, g'⟩ (fun r => ∀ c : Dev Cert.PlacesIdeal.nD,
          r.2.mem ((c.tc : Thread Cert.PlacesIdeal.nD Cert.PlacesIdeal.τ).loc Cert.PlacesIdeal.main_v44) = v0 c
          ∧ r.2.mem ((c.tc : Thread Cert.PlacesIdeal.nD Cert.PlacesIdeal.τ).loc Cert.PlacesIdeal.main_arg0) = m' ((c.tc : Thread Cert.PlacesIdeal.nD Cert.PlacesIdeal.τ).loc Cert.PlacesIdeal.main_arg0)
          ∧ r.2.mem ((c.tc : Thread Cert.PlacesIdeal.nD Cert.PlacesIdeal.τ).loc Cert.PlacesIdeal.main_arg1) = m' ((c.tc : Thread Cert.PlacesIdeal.nD Cert.PlacesIdeal.τ).loc Cert.PlacesIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hRowsIdeal : Cert.RowsIdeal.Facts) (hNearest : Cert.Nearest.Facts) (hNearestIdeal : Cert.NearestIdeal.Facts) (hPlacesIdeal : Cert.PlacesIdeal.Facts) (hPre_finite_coords : Cert.Pre_finite_coords.Facts) (hPre_idx_in_rows : Cert.Pre_idx_in_rows.Facts) (hPre_finite_points : Cert.Pre_finite_points.Facts),
    quiescent_KernelIdeal (hKernelIdeal := hKernelIdeal)
    ∧ quiescent_KernelIdeal_pre_finite_coords (hKernelIdeal := hKernelIdeal) (hPre_finite_coords := hPre_finite_coords)
    ∧ quiescent_ReferenceIdeal (hReferenceIdeal := hReferenceIdeal)
    ∧ quiescent_ReferenceIdeal_pre_finite_coords (hReferenceIdeal := hReferenceIdeal) (hPre_finite_coords := hPre_finite_coords)
    ∧ quiescent_Gather (hGather := hGather) (hPre_idx_in_rows := hPre_idx_in_rows)
    ∧ quiescent_GatherIdeal (hGatherIdeal := hGatherIdeal) (hPre_idx_in_rows := hPre_idx_in_rows)
    ∧ quiescent_RowsIdeal (hRowsIdeal := hRowsIdeal) (hPre_idx_in_rows := hPre_idx_in_rows)
    ∧ quiescent_Nearest (hNearest := hNearest)
    ∧ quiescent_NearestIdeal (hNearestIdeal := hNearestIdeal)
    ∧ quiescent_NearestIdeal_pre_finite_points (hNearestIdeal := hNearestIdeal) (hPre_finite_points := hPre_finite_points)
    ∧ quiescent_PlacesIdeal (hPlacesIdeal := hPlacesIdeal)
    ∧ quiescent_PlacesIdeal_pre_finite_points (hPlacesIdeal := hPlacesIdeal) (hPre_finite_points := hPre_finite_points)
    ∧ algebraic_KernelIdeal_ReferenceIdeal_pre_finite_coords (hKernelIdeal := hKernelIdeal) (hReferenceIdeal := hReferenceIdeal) (hPre_finite_coords := hPre_finite_coords)
    ∧ preserves_Gather_GatherIdeal
    ∧ algebraic_GatherIdeal_RowsIdeal (hGatherIdeal := hGatherIdeal) (hRowsIdeal := hRowsIdeal) (hPre_idx_in_rows := hPre_idx_in_rows)
    ∧ preserves_Nearest_NearestIdeal
    ∧ algebraic_NearestIdeal_PlacesIdeal_pre_finite_points (hNearestIdeal := hNearestIdeal) (hPlacesIdeal := hPlacesIdeal) (hPre_finite_points := hPre_finite_points)
-- ==== Pre_finite_coords.lean ====
abbrev S10000x128 : Shape := ⟨2, ![10000, 128]⟩
abbrev S10000x3 : Shape := ⟨2, ![10000, 3]⟩
abbrev S2500x3 : Shape := ⟨2, ![2500, 3]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S2500x3 : S_.BroadcastsInDim S2500x3 (![] : Fin 0 → Fin S2500x3.rank)
  reducesTo_S2500x3_S_d0_1 : S2500x3.ReducesTo [0, 1] S_

variable [Facts]

def fn_part1 {F : FTy → Type} [FloatOps F] (main_v13 : IVec S_ 1) (main_v16 : IVec S2500x3 1) : IVec S_ 1 :=
  let main_c_5 : IVec S_ 1 := constantI S_ 1 1#1
  let main_v17 : IVec S_ 1 := (fun x v => Host.reduce IntOp.andi x v reducesTo_S2500x3_S_d0_1 h_S_) main_v16 main_c_5
  let main_v18 : IVec S_ 1 := andi main_v13 main_v17
  main_v18

def fn {F : FTy → Type} [FloatOps F] (main_arg0 : FVec F S10000x128 .f32) (main_arg1 : FVec F S10000x128 .f32) (main_arg2 : FVec F S10000x3 .f32) (main_arg3 : FVec F S10000x3 .f32) (main_arg4 : FVec F S2500x3 .f32) (main_arg5 : FVec F S2500x3 .f32) : IVec S_ 1 :=
  let main_v0 : FVec F S10000x3 .f32 := Host.absf main_arg2
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S10000x3 .f32 := Host.absf main_arg3
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S2500x3 .f32 := Host.absf main_arg4
  let main_cst_2 : FVec F S_ .f32 := constant S_ .f32 0x7F800000#32
  let main_v10 : FVec F S2500x3 .f32 := broadcastInDim S2500x3 ![] bcast_S_S2500x3 main_cst_2
  let main_v11 : IVec S2500x3 1 := cmpf .olt main_v9 main_v10
  let main_c_3 : IVec S_ 1 := constantI S_ 1 1#1
  let main_v12 : IVec S_ 1 := (fun x v => Host.reduce IntOp.andi x v reducesTo_S2500x3_S_d0_1 h_S_) main_v11 main_c_3
  let main_v13 : IVec S_ 1 := andi main_v8 main_v12
  let main_v14 : FVec F S2500x3 .f32 := Host.absf main_arg5
  let main_cst_4 : FVec F S_ .f32 := constant S_ .f32 0x7F800000#32
  let main_v15 : FVec F S2500x3 .f32 := broadcastInDim S2500x3 ![] bcast_S_S2500x3 main_cst_4
  let main_v16 : IVec S2500x3 1 := cmpf .olt main_v14 main_v15
  fn_part1 (F := F) main_v13 main_v16
-- ==== Pre_finite_points.lean ====
abbrev S2x2560x3 : Shape := ⟨3, ![2, 2560, 3]⟩
abbrev S2x3x10000 : Shape := ⟨3, ![2, 3, 10000]⟩
abbrev S_ : Shape := ⟨0, ![]⟩

class Facts : Prop where
  bcast_S_S2x2560x3 : S_.BroadcastsInDim S2x2560x3 (![] : Fin 0 → Fin S2x2560x3.rank)
  reducesTo_S2x2560x3_S_d0_1_2 : S2x2560x3.ReducesTo [0, 1, 2] S_
  h_S_ : 0 < S_.numel
  bcast_S_S2x3x10000 : S_.BroadcastsInDim S2x3x10000 (![] : Fin 0 → Fin S2x3x10000.rank)
  reducesTo_S2x3x10000_S_d0_1_2 : S2x3x10000.ReducesTo [0, 1, 2] S_

variable [Facts]

def fn {F : FTy → Type} [FloatOps F] (main_arg0 : FVec F S2x2560x3 .f32) (main_arg1 : FVec F S2x3x10000 .f32) : IVec S_ 1 :=
  let main_v0 : FVec F S2x2560x3 .f32 := Host.absf main_arg0
  let main_cst : FVec F S_ .f32 := constant S_ .f32 0x7F800000#32
  let main_v1 : FVec F S2x2560x3 .f32 := broadcastInDim S2x2560x3 ![] bcast_S_S2x2560x3 main_cst
  let main_v2 : IVec S2x2560x3 1 := cmpf .olt main_v0 main_v1
  let main_c : IVec S_ 1 := constantI S_ 1 1#1
  let main_v3 : IVec S_ 1 := (fun x v => Host.reduce IntOp.andi x v reducesTo_S2x2560x3_S_d0_1_2 h_S_) main_v2 main_c
  let main_v4 : FVec F S2x3x10000 .f32 := Host.absf main_arg1
  let main_cst_0 : FVec F S_ .f32 := constant S_ .f32 0x7F800000#32
  let main_v5 : FVec F S2x3x10000 .f32 := broadcastInDim S2x3x10000 ![] bcast_S_S2x3x10000 main_cst_0
  let main_v6 : IVec S2x3x10000 1 := cmpf .olt main_v4 main_v5
  let main_c_1 : IVec S_ 1 := constantI S_ 1 1#1
  let main_v7 : IVec S_ 1 := (fun x v => Host.reduce IntOp.andi x v reducesTo_S2x3x10000_S_d0_1_2 h_S_) main_v6 main_c_1
  let main_v8 : IVec S_ 1 := andi main_v3 main_v7
  main_v8
-- ==== Pre_idx_in_rows.lean ====
abbrev S10000x128 : Shape := ⟨2, ![10000, 128]⟩
abbrev S2x2560x1 : Shape := ⟨3, ![2, 2560, 1]⟩
abbrev S_ : Shape := ⟨0, ![]⟩

class Facts : Prop where
  bcast_S_S2x2560x1 : S_.BroadcastsInDim S2x2560x1 (![] : Fin 0 → Fin S2x2560x1.rank)
  reducesTo_S2x2560x1_S_d0_1_2 : S2x2560x1.ReducesTo [0, 1, 2] S_
  h_S_ : 0 < S_.numel

variable [Facts]

def fn {F : FTy → Type} [FloatOps F] (main_arg0 : FVec F S10000x128 .f32) (main_arg1 : FVec F S10000x128 .f32) (main_arg2 : IVec S2x2560x1 32) : IVec S_ 1 :=
  let main_c : IVec S_ 32 := constantI S_ 32 0#32
  let main_v0 : IVec S2x2560x1 32 := broadcastInDim S2x2560x1 ![] bcast_S_S2x2560x1 main_c
  let main_v1 : IVec S2x2560x1 1 := cmpi .sge main_arg2 main_v0
  let main_c_0 : IVec S_ 32 := constantI S_ 32 10000#32
  let main_v2 : IVec S2x2560x1 32 := broadcastInDim S2x2560x1 ![] bcast_S_S2x2560x1 main_c_0
  let main_v3 : IVec S2x2560x1 1 := cmpi .slt main_arg2 main_v2
  let main_v4 : IVec S2x2560x1 1 := andi main_v1 main_v3
  let main_c_1 : IVec S_ 1 := constantI S_ 1 1#1
  let main_v5 : IVec S_ 1 := (fun x v => Host.reduce IntOp.andi x v reducesTo_S2x2560x1_S_d0_1_2 h_S_) main_v4 main_c_1
  main_v5
-- ==== KernelIdeal.lean ====
abbrev S10000x128 : Shape := ⟨2, ![10000, 128]⟩
abbrev S10000x3 : Shape := ⟨2, ![10000, 3]⟩
abbrev S2500x3 : Shape := ⟨2, ![2500, 3]⟩
abbrev S_ : Shape := ⟨0, ![]⟩
abbrev S60x3 : Shape := ⟨2, ![60, 3]⟩
abbrev S2560x3 : Shape := ⟨2, ![2560, 3]⟩
abbrev S1x2560x3 : Shape := ⟨3, ![1, 2560, 3]⟩
abbrev S2x2560x3 : Shape := ⟨3, ![2, 2560, 3]⟩
abbrev S3x10000 : Shape := ⟨2, ![3, 10000]⟩
abbrev S1x3x10000 : Shape := ⟨3, ![1, 3, 10000]⟩
abbrev S2x3x10000 : Shape := ⟨3, ![2, 3, 10000]⟩
abbrev S2x2560x1 : Shape := ⟨3, ![2, 2560, 1]⟩
abbrev S1x256x3 : Shape := ⟨3, ![1, 256, 3]⟩
abbrev S1x256x1 : Shape := ⟨3, ![1, 256, 1]⟩
abbrev S256x3 : Shape := ⟨2, ![256, 3]⟩
abbrev S256x1 : Shape := ⟨2, ![256, 1]⟩
abbrev S1x10000 : Shape := ⟨2, ![1, 10000]⟩
abbrev S256x10000 : Shape := ⟨2, ![256, 10000]⟩
abbrev S256 : Shape := ⟨1, ![256]⟩
abbrev S1x2560x1 : Shape := ⟨3, ![1, 2560, 1]⟩
abbrev S2560x1 : Shape := ⟨2, ![2560, 1]⟩
abbrev S32x80 : Shape := ⟨2, ![32, 80]⟩
abbrev S2560x128 : Shape := ⟨2, ![2560, 128]⟩
abbrev S2x1x80 : Shape := ⟨3, ![2, 1, 80]⟩
abbrev S2 : Shape := ⟨1, ![2]⟩
abbrev S2x80x128 : Shape := ⟨3, ![2, 80, 128]⟩
abbrev S1x1x80 : Shape := ⟨3, ![1, 1, 80]⟩
abbrev S1x80 : Shape := ⟨2, ![1, 80]⟩
abbrev S1 : Shape := ⟨1, ![1]⟩
abbrev S1x80x128 : Shape := ⟨3, ![1, 80, 128]⟩
abbrev S80x128 : Shape := ⟨2, ![80, 128]⟩
abbrev S80 : Shape := ⟨1, ![80]⟩
abbrev S2500x128 : Shape := ⟨2, ![2500, 128]⟩

abbrev nBuf : Table → Nat
  | .hbm => 29
  | .local .tc .vmem => 6
  | .local .scVector .vmem => 4
  | _ => 0

abbrev bufTy : (tb : Table) → Fin (nBuf tb) → BufTy
  | .hbm, ⟨0, _⟩ => ⟨S10000x128, .f32⟩
  | .hbm, ⟨1, _⟩ => ⟨S10000x128, .f32⟩
  | .hbm, ⟨2, _⟩ => ⟨S10000x3, .f32⟩
  | .hbm, ⟨3, _⟩ => ⟨S10000x3, .f32⟩
  | .hbm, ⟨4, _⟩ => ⟨S2500x3, .f32⟩
  | .hbm, ⟨5, _⟩ => ⟨S2500x3, .f32⟩
  | .hbm, ⟨6, _⟩ => ⟨S_, .f32⟩
  | .hbm, ⟨7, _⟩ => ⟨S60x3, .f32⟩
  | .hbm, ⟨8, _⟩ => ⟨S2560x3, .f32⟩
  | .hbm, ⟨9, _⟩ => ⟨S2560x3, .f32⟩
  | .hbm, ⟨10, _⟩ => ⟨S1x2560x3, .f32⟩
  | .hbm, ⟨11, _⟩ => ⟨S1x2560x3, .f32⟩
  | .hbm, ⟨12, _⟩ => ⟨S2x2560x3, .f32⟩
  | .hbm, ⟨13, _⟩ => ⟨S3x10000, .f32⟩
  | .hbm, ⟨14, _⟩ => ⟨S3x10000, .f32⟩
  | .hbm, ⟨15, _⟩ => ⟨S1x3x10000, .f32⟩
  | .hbm, ⟨16, _⟩ => ⟨S1x3x10000, .f32⟩
  | .hbm, ⟨17, _⟩ => ⟨S2x3x10000, .f32⟩
  | .hbm, ⟨18, _⟩ => ⟨S2x2560x1, .i32⟩
  | .hbm, ⟨19, _⟩ => ⟨S1x2560x1, .i32⟩
  | .hbm, ⟨20, _⟩ => ⟨S2560x1, .i32⟩
  | .hbm, ⟨21, _⟩ => ⟨S32x80, .i32⟩
  | .hbm, ⟨22, _⟩ => ⟨S2560x128, .f32⟩
  | .hbm, ⟨23, _⟩ => ⟨S1x2560x1, .i32⟩
  | .hbm, ⟨24, _⟩ => ⟨S2560x1, .i32⟩
  | .hbm, ⟨25, _⟩ => ⟨S32x80, .i32⟩
  | .hbm, ⟨26, _⟩ => ⟨S2560x128, .f32⟩
  | .hbm, ⟨27, _⟩ => ⟨S2500x128, .f32⟩
  | .hbm, ⟨28, _⟩ => ⟨S2500x128, .f32⟩
  | .local .tc .vmem, ⟨0, _⟩ => ⟨S1x256x3, .f32⟩
  | .local .tc .vmem, ⟨1, _⟩ => ⟨S1x256x3, .f32⟩
  | .local .tc .vmem, ⟨2, _⟩ => ⟨S1x3x10000, .f32⟩
  | .local .tc .vmem, ⟨3, _⟩ => ⟨S1x3x10000, .f32⟩
  | .local .tc .vmem, ⟨4, _⟩ => ⟨S1x256x1, .i32⟩
  | .local .tc .vmem, ⟨5, _⟩ => ⟨S1x256x1, .i32⟩
  | .local .scVector .vmem, ⟨0, _⟩ => ⟨S2x1x80, .i32⟩
  | .local .scVector .vmem, ⟨1, _⟩ => ⟨S2x80x128, .f32⟩
  | .local .scVector .vmem, ⟨2, _⟩ => ⟨S2x1x80, .i32⟩
  | .local .scVector .vmem, ⟨3, _⟩ => ⟨S2x80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_arg0_scv : Ref sig .scVector := ⟨.hbm, 0, rfl⟩
abbrev main_v14_scv : Ref sig .scVector := ⟨.hbm, 21, rfl⟩
abbrev main_v15_scv : Ref sig .scVector := ⟨.hbm, 22, rfl⟩
abbrev main_arg1_scv : Ref sig .scVector := ⟨.hbm, 1, rfl⟩
abbrev main_v18_scv : Ref sig .scVector := ⟨.hbm, 25, rfl⟩
abbrev main_v19_scv : Ref sig .scVector := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scoped0 : Ref sig .scVector := ⟨.vmem, 0, rfl⟩
abbrev cc1_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 : Fin 3 → Nat :=
  let c0_i32_19_r0 : BitVec 32 := 0#32
  let c2_i32_r0 : BitVec 32 := 2#32
  let v20_r0 : BitVec 32 := Scalar.remui c0_i32_19_r0 c2_i32_r0
  let c0_i32_21_r0 : BitVec 32 := 0#32
  let c0_i32_22_r0 : BitVec 32 := 0#32
  ![v20_r0.toNat, 0, 0]
def k1_off2 (i : grid1.Coords) : Fin 2 → Nat :=
  let c1_i32_20_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c1_i32_20_r0 v7_r0
  let c0_i32_23_r0 : BitVec 32 := 0#32
  ![v21_r0.toNat, 0]
def k1_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k1_cond1 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v46_r0 : BitVec 1 := Scalar.cmpi .ne v33_r0 v41_r0
  let c0_i32_33_r0 : BitVec 32 := 0#32
  let c0_i32_55_r0 : BitVec 32 := 0#32
  let v47_r0 : BitVec 1 := Scalar.cmpi .sge c0_i32_33_r0 c0_i32_55_r0
  let true_56_r0 : BitVec 1 := 1#1
  let v48_r0 : BitVec 1 := Scalar.xori v47_r0 true_56_r0
  let v49_r0 : BitVec 1 := Scalar.andi v46_r0 v48_r0
  let true_57_r0 : BitVec 1 := 1#1
  let v50_r0 : BitVec 1 := Scalar.andi v49_r0 true_57_r0
  let v51_r0 : BitVec 32 := Scalar.extui v50_r0
  let c0_i32_58_r0 : BitVec 32 := 0#32
  let v52_r0 : BitVec 1 := Scalar.cmpi .ne v51_r0 c0_i32_58_r0
  v52_r0

def k1_off4 : Fin 3 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k1_off5 (i : grid1.Coords) : Fin 2 → Nat :=
  let c1_i32_120_r0 : BitVec 32 := 1#32
  let c0_i32_48_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_48_r0 v4
  let v135_r0 : BitVec 32 := Scalar.muli c1_i32_120_r0 v41_r0
  let c0_i32_123_r0 : BitVec 32 := 0#32
  ![v135_r0.toNat, 0]
def k1_off6 : Fin 1 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  ![v134_r0.toNat]
def k1_cond2 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v60_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let v61_r0 : BitVec 1 := Scalar.ori v60_r0 v31_r0
  let c0_i32_63_r0 : BitVec 32 := 0#32
  let v62_r0 : BitVec 1 := Scalar.cmpi .sge c0_i32_33_r0 c0_i32_63_r0
  let v63_r0 : BitVec 1 := Scalar.andi v61_r0 v62_r0
  let v64_r0 : BitVec 32 := Scalar.extui v63_r0
  let c0_i32_64_r0 : BitVec 32 := 0#32
  let v65_r0 : BitVec 1 := Scalar.cmpi .ne v64_r0 c0_i32_64_r0
  v65_r0

def k1_off7 : Fin 3 → Nat :=
  let c0_i32_29_r0 : BitVec 32 := 0#32
  let c2_i32_120_r0 : BitVec 32 := 2#32
  let v135_r0 : BitVec 32 := Scalar.remui c0_i32_29_r0 c2_i32_120_r0
  let c0_i32_121_r0 : BitVec 32 := 0#32
  let c0_i32_122_r0 : BitVec 32 := 0#32
  ![v135_r0.toNat, 0, 0]
def k1_off8 (i : grid1.Coords) : Fin 2 → Nat :=
  let c1_i32_119_r0 : BitVec 32 := 1#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v134_r0 : BitVec 32 := Scalar.muli c1_i32_119_r0 v33_r0
  let c0_i32_123_r0 : BitVec 32 := 0#32
  ![v134_r0.toNat, 0]
def k1_off9 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k1_off10 : Fin 3 → Nat :=
  let c0_i32_30_r0 : BitVec 32 := 0#32
  let c2_i32_68_r0 : BitVec 32 := 2#32
  let v73_r0 : BitVec 32 := Scalar.remui c0_i32_30_r0 c2_i32_68_r0
  let c0_i32_119_r1 : BitVec 32 := 0#32
  let c0_i32_120_r1 : BitVec 32 := 0#32
  ![v73_r0.toNat, 0, 0]
def k1_cond5 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v79_r0 : BitVec 1 := Scalar.cmpi .ne v33_r0 v41_r0
  let c0_i32_33_r0 : BitVec 32 := 0#32
  let c0_i32_35_r0 : BitVec 32 := 0#32
  let v32_r0 : BitVec 1 := Scalar.cmpi .eq c0_i32_33_r0 c0_i32_35_r0
  let v80_r0 : BitVec 1 := Scalar.ori v79_r0 v32_r0
  let v81_r0 : BitVec 32 := Scalar.extui v80_r0
  let c0_i32_71_r0 : BitVec 32 := 0#32
  let v82_r0 : BitVec 1 := Scalar.cmpi .ne v81_r0 c0_i32_71_r0
  v82_r0

def k1_off11 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k1_off12 (i : grid1.Coords) : Fin 2 → Nat :=
  let c80_i32_120_r0 : BitVec 32 := 80#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v135_r0 : BitVec 32 := Scalar.muli c80_i32_120_r0 v33_r0
  let c0_i32_123_r0 : BitVec 32 := 0#32
  ![v135_r0.toNat, 0]
def k1_off13 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k1_cond7 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let v95_r0 : BitVec 32 := Scalar.extui v94_r0
  let c0_i32_78_r0 : BitVec 32 := 0#32
  let v96_r0 : BitVec 1 := Scalar.cmpi .ne v95_r0 c0_i32_78_r0
  v96_r0

def k1_off14 : Fin 3 → Nat :=
  let c0_i32_31_r0 : BitVec 32 := 0#32
  let c2_i32_119_r0 : BitVec 32 := 2#32
  let v134_r0 : BitVec 32 := Scalar.remui c0_i32_31_r0 c2_i32_119_r0
  let c0_i32_121_r0 : BitVec 32 := 0#32
  let c0_i32_122_r0 : BitVec 32 := 0#32
  ![v134_r0.toNat, 0, 0]
def k1_off15 (i : grid1.Coords) : Fin 2 → Nat :=
  let c80_i32_120_r0 : BitVec 32 := 80#32
  let c0_i32_42_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_42_r0 v4
  let v135_r0 : BitVec 32 := Scalar.muli c80_i32_120_r0 v37_r0
  let c0_i32_123_r0 : BitVec 32 := 0#32
  ![v135_r0.toNat, 0]
def k1_off16 : Fin 1 → Nat :=
  let c0_i32_31_r0 : BitVec 32 := 0#32
  let c2_i32_119_r0 : BitVec 32 := 2#32
  let v134_r0 : BitVec 32 := Scalar.remui c0_i32_31_r0 c2_i32_119_r0
  ![v134_r0.toNat]
def k1_off17 (i : grid1.Coords) : Fin 3 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  let c0_i32_113_r0 : BitVec 32 := 0#32
  let c0_i32_114_r0 : BitVec 32 := 0#32
  ![v124_r0.toNat, 0, 0]
def k1_off18 (i : grid1.Coords) : Fin 2 → Nat :=
  let c80_i32_r0 : BitVec 32 := 80#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_93_r0 v4
  let v125_r0 : BitVec 32 := Scalar.muli c80_i32_r0 v111_r0
  let c0_i32_115_r0 : BitVec 32 := 0#32
  ![v125_r0.toNat, 0]
def k1_off19 (i : grid1.Coords) : Fin 1 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  ![v124_r0.toNat]
abbrev grid2 : Pipeline.Grid := ⟨2, ![2, 16], ![false, false]⟩

def k2_off1 : Fin 3 → Nat :=
  let c0_i32_19_r0 : BitVec 32 := 0#32
  let c2_i32_r0 : BitVec 32 := 2#32
  let v20_r0 : BitVec 32 := Scalar.remui c0_i32_19_r0 c2_i32_r0
  let c0_i32_21_r0 : BitVec 32 := 0#32
  let c0_i32_22_r0 : BitVec 32 := 0#32
  ![v20_r0.toNat, 0, 0]
def k2_off2 (i : grid2.Coords) : Fin 2 → Nat :=
  let c1_i32_20_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c1_i32_20_r0 v7_r0
  let c0_i32_23_r0 : BitVec 32 := 0#32
  ![v21_r0.toNat, 0]
def k2_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k2_cond1 (i : grid2.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v46_r0 : BitVec 1 := Scalar.cmpi .ne v33_r0 v41_r0
  let c0_i32_33_r0 : BitVec 32 := 0#32
  let c0_i32_55_r0 : BitVec 32 := 0#32
  let v47_r0 : BitVec 1 := Scalar.cmpi .sge c0_i32_33_r0 c0_i32_55_r0
  let true_56_r0 : BitVec 1 := 1#1
  let v48_r0 : BitVec 1 := Scalar.xori v47_r0 true_56_r0
  let v49_r0 : BitVec 1 := Scalar.andi v46_r0 v48_r0
  let true_57_r0 : BitVec 1 := 1#1
  let v50_r0 : BitVec 1 := Scalar.andi v49_r0 true_57_r0
  let v51_r0 : BitVec 32 := Scalar.extui v50_r0
  let c0_i32_58_r0 : BitVec 32 := 0#32
  let v52_r0 : BitVec 1 := Scalar.cmpi .ne v51_r0 c0_i32_58_r0
  v52_r0

def k2_off4 : Fin 3 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k2_off5 (i : grid2.Coords) : Fin 2 → Nat :=
  let c1_i32_120_r0 : BitVec 32 := 1#32
  let c0_i32_48_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_48_r0 v4
  let v135_r0 : BitVec 32 := Scalar.muli c1_i32_120_r0 v41_r0
  let c0_i32_123_r0 : BitVec 32 := 0#32
  ![v135_r0.toNat, 0]
def k2_off6 : Fin 1 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  ![v134_r0.toNat]
def k2_cond2 (i : grid2.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v60_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let v61_r0 : BitVec 1 := Scalar.ori v60_r0 v31_r0
  let c0_i32_63_r0 : BitVec 32 := 0#32
  let v62_r0 : BitVec 1 := Scalar.cmpi .sge c0_i32_33_r0 c0_i32_63_r0
  let v63_r0 : BitVec 1 := Scalar.andi v61_r0 v62_r0
  let v64_r0 : BitVec 32 := Scalar.extui v63_r0
  let c0_i32_64_r0 : BitVec 32 := 0#32
  let v65_r0 : BitVec 1 := Scalar.cmpi .ne v64_r0 c0_i32_64_r0
  v65_r0

def k2_off7 : Fin 3 → Nat :=
  let c0_i32_29_r0 : BitVec 32 := 0#32
  let c2_i32_120_r0 : BitVec 32 := 2#32
  let v135_r0 : BitVec 32 := Scalar.remui c0_i32_29_r0 c2_i32_120_r0
  let c0_i32_121_r0 : BitVec 32 := 0#32
  let c0_i32_122_r0 : BitVec 32 := 0#32
  ![v135_r0.toNat, 0, 0]
def k2_off8 (i : grid2.Coords) : Fin 2 → Nat :=
  let c1_i32_119_r0 : BitVec 32 := 1#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v134_r0 : BitVec 32 := Scalar.muli c1_i32_119_r0 v33_r0
  let c0_i32_123_r0 : BitVec 32 := 0#32
  ![v134_r0.toNat, 0]
def k2_off9 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k2_off10 : Fin 3 → Nat :=
  let c0_i32_30_r0 : BitVec 32 := 0#32
  let c2_i32_68_r0 : BitVec 32 := 2#32
  let v73_r0 : BitVec 32 := Scalar.remui c0_i32_30_r0 c2_i32_68_r0
  let c0_i32_119_r1 : BitVec 32 := 0#32
  let c0_i32_120_r1 : BitVec 32 := 0#32
  ![v73_r0.toNat, 0, 0]
def k2_cond5 (i : grid2.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v79_r0 : BitVec 1 := Scalar.cmpi .ne v33_r0 v41_r0
  let c0_i32_33_r0 : BitVec 32 := 0#32
  let c0_i32_35_r0 : BitVec 32 := 0#32
  let v32_r0 : BitVec 1 := Scalar.cmpi .eq c0_i32_33_r0 c0_i32_35_r0
  let v80_r0 : BitVec 1 := Scalar.ori v79_r0 v32_r0
  let v81_r0 : BitVec 32 := Scalar.extui v80_r0
  let c0_i32_71_r0 : BitVec 32 := 0#32
  let v82_r0 : BitVec 1 := Scalar.cmpi .ne v81_r0 c0_i32_71_r0
  v82_r0

def k2_off11 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k2_off12 (i : grid2.Coords) : Fin 2 → Nat :=
  let c80_i32_120_r0 : BitVec 32 := 80#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v135_r0 : BitVec 32 := Scalar.muli c80_i32_120_r0 v33_r0
  let c0_i32_123_r0 : BitVec 32 := 0#32
  ![v135_r0.toNat, 0]
def k2_off13 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k2_cond7 (i : grid2.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let v95_r0 : BitVec 32 := Scalar.extui v94_r0
  let c0_i32_78_r0 : BitVec 32 := 0#32
  let v96_r0 : BitVec 1 := Scalar.cmpi .ne v95_r0 c0_i32_78_r0
  v96_r0

def k2_off14 : Fin 3 → Nat :=
  let c0_i32_31_r0 : BitVec 32 := 0#32
  let c2_i32_119_r0 : BitVec 32 := 2#32
  let v134_r0 : BitVec 32 := Scalar.remui c0_i32_31_r0 c2_i32_119_r0
  let c0_i32_121_r0 : BitVec 32 := 0#32
  let c0_i32_122_r0 : BitVec 32 := 0#32
  ![v134_r0.toNat, 0, 0]
def k2_off15 (i : grid2.Coords) : Fin 2 → Nat :=
  let c80_i32_120_r0 : BitVec 32 := 80#32
  let c0_i32_42_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_42_r0 v4
  let v135_r0 : BitVec 32 := Scalar.muli c80_i32_120_r0 v37_r0
  let c0_i32_123_r0 : BitVec 32 := 0#32
  ![v135_r0.toNat, 0]
def k2_off16 : Fin 1 → Nat :=
  let c0_i32_31_r0 : BitVec 32 := 0#32
  let c2_i32_119_r0 : BitVec 32 := 2#32
  let v134_r0 : BitVec 32 := Scalar.remui c0_i32_31_r0 c2_i32_119_r0
  ![v134_r0.toNat]
def k2_off17 (i : grid2.Coords) : Fin 3 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  let c0_i32_113_r0 : BitVec 32 := 0#32
  let c0_i32_114_r0 : BitVec 32 := 0#32
  ![v124_r0.toNat, 0, 0]
def k2_off18 (i : grid2.Coords) : Fin 2 → Nat :=
  let c80_i32_r0 : BitVec 32 := 80#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_93_r0 v4
  let v125_r0 : BitVec 32 := Scalar.muli c80_i32_r0 v111_r0
  let c0_i32_115_r0 : BitVec 32 := 0#32
  ![v125_r0.toNat, 0]
def k2_off19 (i : grid2.Coords) : Fin 1 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  ![v124_r0.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S10000x128 : Shape := ⟨2, ![10000, 128]⟩
abbrev S10000x3 : Shape := ⟨2, ![10000, 3]⟩
abbrev S2500x3 : Shape := ⟨2, ![2500, 3]⟩
abbrev S_ : Shape := ⟨0, ![]⟩
abbrev S2500 : Shape := ⟨1, ![2500]⟩
abbrev S2500x1 : Shape := ⟨2, ![2500, 1]⟩
abbrev S10000 : Shape := ⟨1, ![10000]⟩
abbrev S1x10000 : Shape := ⟨2, ![1, 10000]⟩
abbrev S2500x10000 : Shape := ⟨2, ![2500, 10000]⟩
abbrev S3x10000 : Shape := ⟨2, ![3, 10000]⟩
abbrev S2500x2 : Shape := ⟨2, ![2500, 2]⟩
abbrev S2500x128 : Shape := ⟨2, ![2500, 128]⟩

abbrev nBuf : Space → Nat
  | .hbm => 68
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x3, .f32⟩
  | .hbm, ⟨3, _⟩ => ⟨S10000x3, .f32⟩
  | .hbm, ⟨4, _⟩ => ⟨S2500x3, .f32⟩
  | .hbm, ⟨5, _⟩ => ⟨S2500x3, .f32⟩
  | .hbm, ⟨6, _⟩ => ⟨S2500x3, .f32⟩
  | .hbm, ⟨7, _⟩ => ⟨S_, .f32⟩
  | .hbm, ⟨8, _⟩ => ⟨S2500, .f32⟩
  | .hbm, ⟨9, _⟩ => ⟨S2500x1, .f32⟩
  | .hbm, ⟨10, _⟩ => ⟨S10000x3, .f32⟩
  | .hbm, ⟨11, _⟩ => ⟨S_, .f32⟩
  | .hbm, ⟨12, _⟩ => ⟨S10000, .f32⟩
  | .hbm, ⟨13, _⟩ => ⟨S1x10000, .f32⟩
  | .hbm, ⟨14, _⟩ => ⟨S2500x10000, .f32⟩
  | .hbm, ⟨15, _⟩ => ⟨S2500x10000, .f32⟩
  | .hbm, ⟨16, _⟩ => ⟨S2500x10000, .f32⟩
  | .hbm, ⟨17, _⟩ => ⟨S3x10000, .f32⟩
  | .hbm, ⟨18, _⟩ => ⟨S2500x10000, .f32⟩
  | .hbm, ⟨19, _⟩ => ⟨S_, .f32⟩
  | .hbm, ⟨20, _⟩ => ⟨S2500x10000, .f32⟩
  | .hbm, ⟨21, _⟩ => ⟨S2500x10000, .f32⟩
  | .hbm, ⟨22, _⟩ => ⟨S2500x10000, .f32⟩
  | .hbm, ⟨23, _⟩ => ⟨S2500x10000, .f32⟩
  | .hbm, ⟨24, _⟩ => ⟨S2500x2, .f32⟩
  | .hbm, ⟨25, _⟩ => ⟨S2500x2, .i32⟩
  | .hbm, ⟨26, _⟩ => ⟨S2500x1, .i32⟩
  | .hbm, ⟨27, _⟩ => ⟨S2500, .i32⟩
  | .hbm, ⟨28, _⟩ => ⟨S_, .i32⟩
  | .hbm, ⟨29, _⟩ => ⟨S2500, .i32⟩
  | .hbm, ⟨30, _⟩ => ⟨S2500, .i1⟩
  | .hbm, ⟨31, _⟩ => ⟨S_, .i32⟩
  | .hbm, ⟨32, _⟩ => ⟨S2500, .i32⟩
  | .hbm, ⟨33, _⟩ => ⟨S2500, .i32⟩
  | .hbm, ⟨34, _⟩ => ⟨S2500, .i32⟩
  | .hbm, ⟨35, _⟩ => ⟨S2500x1, .i32⟩
  | .hbm, ⟨36, _⟩ => ⟨S2500x128, .f32⟩
  | .hbm, ⟨37, _⟩ => ⟨S2500x3, .f32⟩
  | .hbm, ⟨38, _⟩ => ⟨S_, .f32⟩
  | .hbm, ⟨39, _⟩ => ⟨S2500, .f32⟩
  | .hbm, ⟨40, _⟩ => ⟨S2500x1, .f32⟩
  | .hbm, ⟨41, _⟩ => ⟨S10000x3, .f32⟩
  | .hbm, ⟨42, _⟩ => ⟨S_, .f32⟩
  | .hbm, ⟨43, _⟩ => ⟨S10000, .f32⟩
  | .hbm, ⟨44, _⟩ => ⟨S1x10000, .f32⟩
  | .hbm, ⟨45, _⟩ => ⟨S2500x10000, .f32⟩
  | .hbm, ⟨46, _⟩ => ⟨S2500x10000, .f32⟩
  | .hbm, ⟨47, _⟩ => ⟨S2500x10000, .f32⟩
  | .hbm, ⟨48, _⟩ => ⟨S3x10000, .f32⟩
  | .hbm, ⟨49, _⟩ => ⟨S2500x10000, .f32⟩
  | .hbm, ⟨50, _⟩ => ⟨S_, .f32⟩
  | .hbm, ⟨51, _⟩ => ⟨S2500x10000, .f32⟩
  | .hbm, ⟨52, _⟩ => ⟨S2500x10000, .f32⟩
  | .hbm, ⟨53, _⟩ => ⟨S2500x10000, .f32⟩
  | .hbm, ⟨54, _⟩ => ⟨S2500x10000, .f32⟩
  | .hbm, ⟨55, _⟩ => ⟨S2500x2, .f32⟩
  | .hbm, ⟨56, _⟩ => ⟨S2500x2, .i32⟩
  | .hbm, ⟨57, _⟩ => ⟨S2500x1, .i32⟩
  | .hbm, ⟨58, _⟩ => ⟨S2500, .i32⟩
  | .hbm, ⟨59, _⟩ => ⟨S_, .i32⟩
  | .hbm, ⟨60, _⟩ => ⟨S2500, .i32⟩
  | .hbm, ⟨61, _⟩ => ⟨S2500, .i1⟩
  | .hbm, ⟨62, _⟩ => ⟨S_, .i32⟩
  | .hbm, ⟨63, _⟩ => ⟨S2500, .i32⟩
  | .hbm, ⟨64, _⟩ => ⟨S2500, .i32⟩
  | .hbm, ⟨65, _⟩ => ⟨S2500, .i32⟩
  | .hbm, ⟨66, _⟩ => ⟨S2500x1, .i32⟩
  | .hbm, ⟨67, _⟩ => ⟨S2500x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_values_6 : Ref sig .tc := ⟨.hbm, 55, rfl⟩
abbrev main_indices_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Gather.lean ====
abbrev S10000x128 : Shape := ⟨2, ![10000, 128]⟩
abbrev S2x2560x1 : Shape := ⟨3, ![2, 2560, 1]⟩
abbrev S1x2560x1 : Shape := ⟨3, ![1, 2560, 1]⟩
abbrev S2560x1 : Shape := ⟨2, ![2560, 1]⟩
abbrev S32x80 : Shape := ⟨2, ![32, 80]⟩
abbrev S2560x128 : Shape := ⟨2, ![2560, 128]⟩
abbrev S2x1x80 : Shape := ⟨3, ![2, 1, 80]⟩
abbrev S2 : Shape := ⟨1, ![2]⟩
abbrev S2x80x128 : Shape := ⟨3, ![2, 80, 128]⟩
abbrev S1x1x80 : Shape := ⟨3, ![1, 1, 80]⟩
abbrev S1x80 : Shape := ⟨2, ![1, 80]⟩
abbrev S1 : Shape := ⟨1, ![1]⟩
abbrev S_ : Shape := ⟨0, ![]⟩
abbrev S1x80x128 : Shape := ⟨3, ![1, 80, 128]⟩
abbrev S80x128 : Shape := ⟨2, ![80, 128]⟩
abbrev S80 : Shape := ⟨1, ![80]⟩
abbrev S2500x128 : Shape := ⟨2, ![2500, 128]⟩

abbrev nBuf : Table → Nat
  | .hbm => 13
  | .local .scVector .vmem => 4
  | _ => 0

abbrev bufTy : (tb : Table) → Fin (nBuf tb) → BufTy
  | .hbm, ⟨0, _⟩ => ⟨S10000x128, .f32⟩
  | .hbm, ⟨1, _⟩ => ⟨S10000x128, .f32⟩
  | .hbm, ⟨2, _⟩ => ⟨S2x2560x1, .i32⟩
  | .hbm, ⟨3, _⟩ => ⟨S1x2560x1, .i32⟩
  | .hbm, ⟨4, _⟩ => ⟨S2560x1, .i32⟩
  | .hbm, ⟨5, _⟩ => ⟨S32x80, .i32⟩
  | .hbm, ⟨6, _⟩ => ⟨S2560x128, .f32⟩
  | .hbm, ⟨7, _⟩ => ⟨S1x2560x1, .i32⟩
  | .hbm, ⟨8, _⟩ => ⟨S2560x1, .i32⟩
  | .hbm, ⟨9, _⟩ => ⟨S32x80, .i32⟩
  | .hbm, ⟨10, _⟩ => ⟨S2560x128, .f32⟩
  | .hbm, ⟨11, _⟩ => ⟨S2500x128, .f32⟩
  | .hbm, ⟨12, _⟩ => ⟨S2500x128, .f32⟩
  | .local .scVector .vmem, ⟨0, _⟩ => ⟨S2x1x80, .i32⟩
  | .local .scVector .vmem, ⟨1, _⟩ => ⟨S2x80x128, .f32⟩
  | .local .scVector .vmem, ⟨2, _⟩ => ⟨S2x1x80, .i32⟩
  | .local .scVector .vmem, ⟨3, _⟩ => ⟨S2x80x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev main_arg1_scv : Ref sig .scVector := ⟨.hbm, 1, rfl⟩
abbrev main_v6_scv : Ref sig .scVector := ⟨.hbm, 9, rfl⟩
abbrev main_v7_scv : Ref sig .scVector := ⟨.hbm, 10, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_19_r0 : BitVec 32 := 0#32
  let c2_i32_r0 : BitVec 32 := 2#32
  let v20_r0 : BitVec 32 := Scalar.remui c0_i32_19_r0 c2_i32_r0
  let c0_i32_21_r0 : BitVec 32 := 0#32
  let c0_i32_22_r0 : BitVec 32 := 0#32
  ![v20_r0.toNat, 0, 0]
def k0_off2 (i : grid0.Coords) : Fin 2 → Nat :=
  let c1_i32_20_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c1_i32_20_r0 v7_r0
  let c0_i32_23_r0 : BitVec 32 := 0#32
  ![v21_r0.toNat, 0]
def k0_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k0_cond1 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v46_r0 : BitVec 1 := Scalar.cmpi .ne v33_r0 v41_r0
  let c0_i32_33_r0 : BitVec 32 := 0#32
  let c0_i32_55_r0 : BitVec 32 := 0#32
  let v47_r0 : BitVec 1 := Scalar.cmpi .sge c0_i32_33_r0 c0_i32_55_r0
  let true_56_r0 : BitVec 1 := 1#1
  let v48_r0 : BitVec 1 := Scalar.xori v47_r0 true_56_r0
  let v49_r0 : BitVec 1 := Scalar.andi v46_r0 v48_r0
  let true_57_r0 : BitVec 1 := 1#1
  let v50_r0 : BitVec 1 := Scalar.andi v49_r0 true_57_r0
  let v51_r0 : BitVec 32 := Scalar.extui v50_r0
  let c0_i32_58_r0 : BitVec 32 := 0#32
  let v52_r0 : BitVec 1 := Scalar.cmpi .ne v51_r0 c0_i32_58_r0
  v52_r0

def k0_off4 : Fin 3 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k0_off5 (i : grid0.Coords) : Fin 2 → Nat :=
  let c1_i32_120_r0 : BitVec 32 := 1#32
  let c0_i32_48_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_48_r0 v4
  let v135_r0 : BitVec 32 := Scalar.muli c1_i32_120_r0 v41_r0
  let c0_i32_123_r0 : BitVec 32 := 0#32
  ![v135_r0.toNat, 0]
def k0_off6 : Fin 1 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  ![v134_r0.toNat]
def k0_cond2 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v60_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let v61_r0 : BitVec 1 := Scalar.ori v60_r0 v31_r0
  let c0_i32_63_r0 : BitVec 32 := 0#32
  let v62_r0 : BitVec 1 := Scalar.cmpi .sge c0_i32_33_r0 c0_i32_63_r0
  let v63_r0 : BitVec 1 := Scalar.andi v61_r0 v62_r0
  let v64_r0 : BitVec 32 := Scalar.extui v63_r0
  let c0_i32_64_r0 : BitVec 32 := 0#32
  let v65_r0 : BitVec 1 := Scalar.cmpi .ne v64_r0 c0_i32_64_r0
  v65_r0

def k0_off7 : Fin 3 → Nat :=
  let c0_i32_29_r0 : BitVec 32 := 0#32
  let c2_i32_120_r0 : BitVec 32 := 2#32
  let v135_r0 : BitVec 32 := Scalar.remui c0_i32_29_r0 c2_i32_120_r0
  let c0_i32_121_r0 : BitVec 32 := 0#32
  let c0_i32_122_r0 : BitVec 32 := 0#32
  ![v135_r0.toNat, 0, 0]
def k0_off8 (i : grid0.Coords) : Fin 2 → Nat :=
  let c1_i32_119_r0 : BitVec 32 := 1#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v134_r0 : BitVec 32 := Scalar.muli c1_i32_119_r0 v33_r0
  let c0_i32_123_r0 : BitVec 32 := 0#32
  ![v134_r0.toNat, 0]
def k0_off9 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k0_off10 : Fin 3 → Nat :=
  let c0_i32_30_r0 : BitVec 32 := 0#32
  let c2_i32_68_r0 : BitVec 32 := 2#32
  let v73_r0 : BitVec 32 := Scalar.remui c0_i32_30_r0 c2_i32_68_r0
  let c0_i32_119_r1 : BitVec 32 := 0#32
  let c0_i32_120_r1 : BitVec 32 := 0#32
  ![v73_r0.toNat, 0, 0]
def k0_cond5 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v79_r0 : BitVec 1 := Scalar.cmpi .ne v33_r0 v41_r0
  let c0_i32_33_r0 : BitVec 32 := 0#32
  let c0_i32_35_r0 : BitVec 32 := 0#32
  let v32_r0 : BitVec 1 := Scalar.cmpi .eq c0_i32_33_r0 c0_i32_35_r0
  let v80_r0 : BitVec 1 := Scalar.ori v79_r0 v32_r0
  let v81_r0 : BitVec 32 := Scalar.extui v80_r0
  let c0_i32_71_r0 : BitVec 32 := 0#32
  let v82_r0 : BitVec 1 := Scalar.cmpi .ne v81_r0 c0_i32_71_r0
  v82_r0

def k0_off11 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k0_off12 (i : grid0.Coords) : Fin 2 → Nat :=
  let c80_i32_120_r0 : BitVec 32 := 80#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v135_r0 : BitVec 32 := Scalar.muli c80_i32_120_r0 v33_r0
  let c0_i32_123_r0 : BitVec 32 := 0#32
  ![v135_r0.toNat, 0]
def k0_off13 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k0_cond7 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let v95_r0 : BitVec 32 := Scalar.extui v94_r0
  let c0_i32_78_r0 : BitVec 32 := 0#32
  let v96_r0 : BitVec 1 := Scalar.cmpi .ne v95_r0 c0_i32_78_r0
  v96_r0

def k0_off14 : Fin 3 → Nat :=
  let c0_i32_31_r0 : BitVec 32 := 0#32
  let c2_i32_119_r0 : BitVec 32 := 2#32
  let v134_r0 : BitVec 32 := Scalar.remui c0_i32_31_r0 c2_i32_119_r0
  let c0_i32_121_r0 : BitVec 32 := 0#32
  let c0_i32_122_r0 : BitVec 32 := 0#32
  ![v134_r0.toNat, 0, 0]
def k0_off15 (i : grid0.Coords) : Fin 2 → Nat :=
  let c80_i32_120_r0 : BitVec 32 := 80#32
  let c0_i32_42_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_42_r0 v4
  let v135_r0 : BitVec 32 := Scalar.muli c80_i32_120_r0 v37_r0
  let c0_i32_123_r0 : BitVec 32 := 0#32
  ![v135_r0.toNat, 0]
def k0_off16 : Fin 1 → Nat :=
  let c0_i32_31_r0 : BitVec 32 := 0#32
  let c2_i32_119_r0 : BitVec 32 := 2#32
  let v134_r0 : BitVec 32 := Scalar.remui c0_i32_31_r0 c2_i32_119_r0
  ![v134_r0.toNat]
def k0_off17 (i : grid0.Coords) : Fin 3 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  let c0_i32_113_r0 : BitVec 32 := 0#32
  let c0_i32_114_r0 : BitVec 32 := 0#32
  ![v124_r0.toNat, 0, 0]
def k0_off18 (i : grid0.Coords) : Fin 2 → Nat :=
  let c80_i32_r0 : BitVec 32 := 80#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_93_r0 v4
  let v125_r0 : BitVec 32 := Scalar.muli c80_i32_r0 v111_r0
  let c0_i32_115_r0 : BitVec 32 := 0#32
  ![v125_r0.toNat, 0]
def k0_off19 (i : grid0.Coords) : Fin 1 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  ![v124_r0.toNat]
abbrev grid1 : Pipeline.Grid := ⟨2, ![2, 16], ![false, false]⟩

def k1_off1 : Fin 3 → Nat :=
  let c0_i32_19_r0 : BitVec 32 := 0#32
  let c2_i32_r0 : BitVec 32 := 2#32
  let v20_r0 : BitVec 32 := Scalar.remui c0_i32_19_r0 c2_i32_r0
  let c0_i32_21_r0 : BitVec 32 := 0#32
  let c0_i32_22_r0 : BitVec 32 := 0#32
  ![v20_r0.toNat, 0, 0]
def k1_off2 (i : grid1.Coords) : Fin 2 → Nat :=
  let c1_i32_20_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c1_i32_20_r0 v7_r0
  let c0_i32_23_r0 : BitVec 32 := 0#32
  ![v21_r0.toNat, 0]
def k1_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k1_cond1 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v46_r0 : BitVec 1 := Scalar.cmpi .ne v33_r0 v41_r0
  let c0_i32_33_r0 : BitVec 32 := 0#32
  let c0_i32_55_r0 : BitVec 32 := 0#32
  let v47_r0 : BitVec 1 := Scalar.cmpi .sge c0_i32_33_r0 c0_i32_55_r0
  let true_56_r0 : BitVec 1 := 1#1
  let v48_r0 : BitVec 1 := Scalar.xori v47_r0 true_56_r0
  let v49_r0 : BitVec 1 := Scalar.andi v46_r0 v48_r0
  let true_57_r0 : BitVec 1 := 1#1
  let v50_r0 : BitVec 1 := Scalar.andi v49_r0 true_57_r0
  let v51_r0 : BitVec 32 := Scalar.extui v50_r0
  let c0_i32_58_r0 : BitVec 32 := 0#32
  let v52_r0 : BitVec 1 := Scalar.cmpi .ne v51_r0 c0_i32_58_r0
  v52_r0

def k1_off4 : Fin 3 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k1_off5 (i : grid1.Coords) : Fin 2 → Nat :=
  let c1_i32_120_r0 : BitVec 32 := 1#32
  let c0_i32_48_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_48_r0 v4
  let v135_r0 : BitVec 32 := Scalar.muli c1_i32_120_r0 v41_r0
  let c0_i32_123_r0 : BitVec 32 := 0#32
  ![v135_r0.toNat, 0]
def k1_off6 : Fin 1 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  ![v134_r0.toNat]
def k1_cond2 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v60_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let v61_r0 : BitVec 1 := Scalar.ori v60_r0 v31_r0
  let c0_i32_63_r0 : BitVec 32 := 0#32
  let v62_r0 : BitVec 1 := Scalar.cmpi .sge c0_i32_33_r0 c0_i32_63_r0
  let v63_r0 : BitVec 1 := Scalar.andi v61_r0 v62_r0
  let v64_r0 : BitVec 32 := Scalar.extui v63_r0
  let c0_i32_64_r0 : BitVec 32 := 0#32
  let v65_r0 : BitVec 1 := Scalar.cmpi .ne v64_r0 c0_i32_64_r0
  v65_r0

def k1_off7 : Fin 3 → Nat :=
  let c0_i32_29_r0 : BitVec 32 := 0#32
  let c2_i32_120_r0 : BitVec 32 := 2#32
  let v135_r0 : BitVec 32 := Scalar.remui c0_i32_29_r0 c2_i32_120_r0
  let c0_i32_121_r0 : BitVec 32 := 0#32
  let c0_i32_122_r0 : BitVec 32 := 0#32
  ![v135_r0.toNat, 0, 0]
def k1_off8 (i : grid1.Coords) : Fin 2 → Nat :=
  let c1_i32_119_r0 : BitVec 32 := 1#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v134_r0 : BitVec 32 := Scalar.muli c1_i32_119_r0 v33_r0
  let c0_i32_123_r0 : BitVec 32 := 0#32
  ![v134_r0.toNat, 0]
def k1_off9 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k1_off10 : Fin 3 → Nat :=
  let c0_i32_30_r0 : BitVec 32 := 0#32
  let c2_i32_68_r0 : BitVec 32 := 2#32
  let v73_r0 : BitVec 32 := Scalar.remui c0_i32_30_r0 c2_i32_68_r0
  let c0_i32_119_r1 : BitVec 32 := 0#32
  let c0_i32_120_r1 : BitVec 32 := 0#32
  ![v73_r0.toNat, 0, 0]
def k1_cond5 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v79_r0 : BitVec 1 := Scalar.cmpi .ne v33_r0 v41_r0
  let c0_i32_33_r0 : BitVec 32 := 0#32
  let c0_i32_35_r0 : BitVec 32 := 0#32
  let v32_r0 : BitVec 1 := Scalar.cmpi .eq c0_i32_33_r0 c0_i32_35_r0
  let v80_r0 : BitVec 1 := Scalar.ori v79_r0 v32_r0
  let v81_r0 : BitVec 32 := Scalar.extui v80_r0
  let c0_i32_71_r0 : BitVec 32 := 0#32
  let v82_r0 : BitVec 1 := Scalar.cmpi .ne v81_r0 c0_i32_71_r0
  v82_r0

def k1_off11 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k1_off12 (i : grid1.Coords) : Fin 2 → Nat :=
  let c80_i32_120_r0 : BitVec 32 := 80#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v135_r0 : BitVec 32 := Scalar.muli c80_i32_120_r0 v33_r0
  let c0_i32_123_r0 : BitVec 32 := 0#32
  ![v135_r0.toNat, 0]
def k1_off13 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k1_cond7 (i : grid1.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let v95_r0 : BitVec 32 := Scalar.extui v94_r0
  let c0_i32_78_r0 : BitVec 32 := 0#32
  let v96_r0 : BitVec 1 := Scalar.cmpi .ne v95_r0 c0_i32_78_r0
  v96_r0

def k1_off14 : Fin 3 → Nat :=
  let c0_i32_31_r0 : BitVec 32 := 0#32
  let c2_i32_119_r0 : BitVec 32 := 2#32
  let v134_r0 : BitVec 32 := Scalar.remui c0_i32_31_r0 c2_i32_119_r0
  let c0_i32_121_r0 : BitVec 32 := 0#32
  let c0_i32_122_r0 : BitVec 32 := 0#32
  ![v134_r0.toNat, 0, 0]
def k1_off15 (i : grid1.Coords) : Fin 2 → Nat :=
  let c80_i32_120_r0 : BitVec 32 := 80#32
  let c0_i32_42_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_42_r0 v4
  let v135_r0 : BitVec 32 := Scalar.muli c80_i32_120_r0 v37_r0
  let c0_i32_123_r0 : BitVec 32 := 0#32
  ![v135_r0.toNat, 0]
def k1_off16 : Fin 1 → Nat :=
  let c0_i32_31_r0 : BitVec 32 := 0#32
  let c2_i32_119_r0 : BitVec 32 := 2#32
  let v134_r0 : BitVec 32 := Scalar.remui c0_i32_31_r0 c2_i32_119_r0
  ![v134_r0.toNat]
def k1_off17 (i : grid1.Coords) : Fin 3 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  let c0_i32_113_r0 : BitVec 32 := 0#32
  let c0_i32_114_r0 : BitVec 32 := 0#32
  ![v124_r0.toNat, 0, 0]
def k1_off18 (i : grid1.Coords) : Fin 2 → Nat :=
  let c80_i32_r0 : BitVec 32 := 80#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_93_r0 v4
  let v125_r0 : BitVec 32 := Scalar.muli c80_i32_r0 v111_r0
  let c0_i32_115_r0 : BitVec 32 := 0#32
  ![v125_r0.toNat, 0]
def k1_off19 (i : grid1.Coords) : Fin 1 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  ![v124_r0.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== RowsIdeal.lean ====
abbrev S10000x128 : Shape := ⟨2, ![10000, 128]⟩
abbrev S2x2560x1 : Shape := ⟨3, ![2, 2560, 1]⟩
abbrev S1x2500x1 : Shape := ⟨3, ![1, 2500, 1]⟩
abbrev S2500 : Shape := ⟨1, ![2500]⟩
abbrev S_ : Shape := ⟨0, ![]⟩
abbrev S2500x1 : Shape := ⟨2, ![2500, 1]⟩
abbrev S2500x128 : Shape := ⟨2, ![2500, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S2x2560x1, .i32⟩
  | .hbm, ⟨3, _⟩ => ⟨S1x2500x1, .i32⟩
  | .hbm, ⟨4, _⟩ => ⟨S2500, .i32⟩
  | .hbm, ⟨5, _⟩ => ⟨S_, .i32⟩
  | .hbm, ⟨6, _⟩ => ⟨S2500, .i32⟩
  | .hbm, ⟨7, _⟩ => ⟨S2500, .i1⟩
  | .hbm, ⟨8, _⟩ => ⟨S_, .i32⟩
  | .hbm, ⟨9, _⟩ => ⟨S2500, .i32⟩
  | .hbm, ⟨10, _⟩ => ⟨S2500, .i32⟩
  | .hbm, ⟨11, _⟩ => ⟨S2500, .i32⟩
  | .hbm, ⟨12, _⟩ => ⟨S2500x1, .i32⟩
  | .hbm, ⟨13, _⟩ => ⟨S2500x128, .f32⟩
  | .hbm, ⟨14, _⟩ => ⟨S1x2500x1, .i32⟩
  | .hbm, ⟨15, _⟩ => ⟨S2500, .i32⟩
  | .hbm, ⟨16, _⟩ => ⟨S_, .i32⟩
  | .hbm, ⟨17, _⟩ => ⟨S2500, .i32⟩
  | .hbm, ⟨18, _⟩ => ⟨S2500, .i1⟩
  | .hbm, ⟨19, _⟩ => ⟨S_, .i32⟩
  | .hbm, ⟨20, _⟩ => ⟨S2500, .i32⟩
  | .hbm, ⟨21, _⟩ => ⟨S2500, .i32⟩
  | .hbm, ⟨22, _⟩ => ⟨S2500, .i32⟩
  | .hbm, ⟨23, _⟩ => ⟨S2500x1, .i32⟩
  | .hbm, ⟨24, _⟩ => ⟨S2500x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Nearest.lean ====
abbrev S2x2560x3 : Shape := ⟨3, ![2, 2560, 3]⟩
abbrev S2x3x10000 : Shape := ⟨3, ![2, 3, 10000]⟩
abbrev S2x2560x1 : Shape := ⟨3, ![2, 2560, 1]⟩
abbrev S1x256x3 : Shape := ⟨3, ![1, 256, 3]⟩
abbrev S1x3x10000 : Shape := ⟨3, ![1, 3, 10000]⟩
abbrev S1x256x1 : Shape := ⟨3, ![1, 256, 1]⟩
abbrev S256x3 : Shape := ⟨2, ![256, 3]⟩
abbrev S3x10000 : Shape := ⟨2, ![3, 10000]⟩
abbrev S256x1 : Shape := ⟨2, ![256, 1]⟩
abbrev S1x10000 : Shape := ⟨2, ![1, 10000]⟩
abbrev S256x10000 : Shape := ⟨2, ![256, 10000]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S2x2560x3, .f32⟩
  | .hbm, ⟨1, _⟩ => ⟨S2x3x10000, .f32⟩
  | .hbm, ⟨2, _⟩ => ⟨S2x2560x1, .i32⟩
  | .local _ .vmem, ⟨0, _⟩ => ⟨S1x256x3, .f32⟩
  | .local _ .vmem, ⟨1, _⟩ => ⟨S1x256x3, .f32⟩
  | .local _ .vmem, ⟨2, _⟩ => ⟨S1x3x10000, .f32⟩
  | .local _ .vmem, ⟨3, _⟩ => ⟨S1x3x10000, .f32⟩
  | .local _ .vmem, ⟨4, _⟩ => ⟨S1x256x1, .i32⟩
  | .local _ .vmem, ⟨5, _⟩ => ⟨S1x256x1, .i32⟩
  | _, _ => ⟨S2x2560x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlacesIdeal.lean ====
abbrev S2x2560x3 : Shape := ⟨3, ![2, 2560, 3]⟩
abbrev S2x3x10000 : Shape := ⟨3, ![2, 3, 10000]⟩
abbrev S1x3x10000 : Shape := ⟨3, ![1, 3, 10000]⟩
abbrev S3x10000 : Shape := ⟨2, ![3, 10000]⟩
abbrev S10000x3 : Shape := ⟨2, ![10000, 3]⟩
abbrev S1x2560x3 : Shape := ⟨3, ![1, 2560, 3]⟩
abbrev S2560x3 : Shape := ⟨2, ![2560, 3]⟩
abbrev S_ : Shape := ⟨0, ![]⟩
abbrev S2560 : Shape := ⟨1, ![2560]⟩
abbrev S2560x1 : Shape := ⟨2, ![2560, 1]⟩
abbrev S10000 : Shape := ⟨1, ![10000]⟩
abbrev S1x10000 : Shape := ⟨2, ![1, 10000]⟩
abbrev S2560x10000 : Shape := ⟨2, ![2560, 10000]⟩
abbrev S2560x2 : Shape := ⟨2, ![2560, 2]⟩
abbrev S1x2560x1 : Shape := ⟨3, ![1, 2560, 1]⟩
abbrev S2x2560x1 : Shape := ⟨3, ![2, 2560, 1]⟩

abbrev nBuf : Space → Nat
  | .hbm => 57
  | .vmem => 0
  | .smem => 0
  | _ => 0

abbrev bufTy : (tb : Table) → Fin (tcTables nBuf tb) → BufTy
  | .hbm, ⟨0, _⟩ => ⟨S2x2560x3, .f32⟩
  | .hbm, ⟨1, _⟩ => ⟨S2x3x10000, .f32⟩
  | .hbm, ⟨2, _⟩ => ⟨S1x3x10000, .f32⟩
  | .hbm, ⟨3, _⟩ => ⟨S3x10000, .f32⟩
  | .hbm, ⟨4, _⟩ => ⟨S10000x3, .f32⟩
  | .hbm, ⟨5, _⟩ => ⟨S1x2560x3, .f32⟩
  | .hbm, ⟨6, _⟩ => ⟨S2560x3, .f32⟩
  | .hbm, ⟨7, _⟩ => ⟨S2560x3, .f32⟩
  | .hbm, ⟨8, _⟩ => ⟨S_, .f32⟩
  | .hbm, ⟨9, _⟩ => ⟨S2560, .f32⟩
  | .hbm, ⟨10, _⟩ => ⟨S2560x1, .f32⟩
  | .hbm, ⟨11, _⟩ => ⟨S10000x3, .f32⟩
  | .hbm, ⟨12, _⟩ => ⟨S_, .f32⟩
  | .hbm, ⟨13, _⟩ => ⟨S10000, .f32⟩
  | .hbm, ⟨14, _⟩ => ⟨S1x10000, .f32⟩
  | .hbm, ⟨15, _⟩ => ⟨S2560x10000, .f32⟩
  | .hbm, ⟨16, _⟩ => ⟨S2560x10000, .f32⟩
  | .hbm, ⟨17, _⟩ => ⟨S2560x10000, .f32⟩
  | .hbm, ⟨18, _⟩ => ⟨S3x10000, .f32⟩
  | .hbm, ⟨19, _⟩ => ⟨S2560x10000, .f32⟩
  | .hbm, ⟨20, _⟩ => ⟨S_, .f32⟩
  | .hbm, ⟨21, _⟩ => ⟨S2560x10000, .f32⟩
  | .hbm, ⟨22, _⟩ => ⟨S2560x10000, .f32⟩
  | .hbm, ⟨23, _⟩ => ⟨S2560x10000, .f32⟩
  | .hbm, ⟨24, _⟩ => ⟨S2560x10000, .f32⟩
  | .hbm, ⟨25, _⟩ => ⟨S2560x2, .f32⟩
  | .hbm, ⟨26, _⟩ => ⟨S2560x2, .i32⟩
  | .hbm, ⟨27, _⟩ => ⟨S2560x1, .i32⟩
  | .hbm, ⟨28, _⟩ => ⟨S1x3x10000, .f32⟩
  | .hbm, ⟨29, _⟩ => ⟨S3x10000, .f32⟩
  | .hbm, ⟨30, _⟩ => ⟨S10000x3, .f32⟩
  | .hbm, ⟨31, _⟩ => ⟨S1x2560x3, .f32⟩
  | .hbm, ⟨32, _⟩ => ⟨S2560x3, .f32⟩
  | .hbm, ⟨33, _⟩ => ⟨S2560x3, .f32⟩
  | .hbm, ⟨34, _⟩ => ⟨S_, .f32⟩
  | .hbm, ⟨35, _⟩ => ⟨S2560, .f32⟩
  | .hbm, ⟨36, _⟩ => ⟨S2560x1, .f32⟩
  | .hbm, ⟨37, _⟩ => ⟨S10000x3, .f32⟩
  | .hbm, ⟨38, _⟩ => ⟨S_, .f32⟩
  | .hbm, ⟨39, _⟩ => ⟨S10000, .f32⟩
  | .hbm, ⟨40, _⟩ => ⟨S1x10000, .f32⟩
  | .hbm, ⟨41, _⟩ => ⟨S2560x10000, .f32⟩
  | .hbm, ⟨42, _⟩ => ⟨S2560x10000, .f32⟩
  | .hbm, ⟨43, _⟩ => ⟨S2560x10000, .f32⟩
  | .hbm, ⟨44, _⟩ => ⟨S3x10000, .f32⟩
  | .hbm, ⟨45, _⟩ => ⟨S2560x10000, .f32⟩
  | .hbm, ⟨46, _⟩ => ⟨S_, .f32⟩
  | .hbm, ⟨47, _⟩ => ⟨S2560x10000, .f32⟩
  | .hbm, ⟨48, _⟩ => ⟨S2560x10000, .f32⟩
  | .hbm, ⟨49, _⟩ => ⟨S2560x10000, .f32⟩
  | .hbm, ⟨50, _⟩ => ⟨S2560x10000, .f32⟩
  | .hbm, ⟨51, _⟩ => ⟨S2560x2, .f32⟩
  | .hbm, ⟨52, _⟩ => ⟨S2560x2, .i32⟩
  | .hbm, ⟨53, _⟩ => ⟨S2560x1, .i32⟩
  | .hbm, ⟨54, _⟩ => ⟨S1x2560x1, .i32⟩
  | .hbm, ⟨55, _⟩ => ⟨S1x2560x1, .i32⟩
  | .hbm, ⟨56, _⟩ => ⟨S2x2560x1, .i32⟩
  | _, _ => ⟨S2x2560x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_values : Ref sig .tc := ⟨.hbm, 25, rfl⟩
abbrev main_indices : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_values_5 : Ref sig .tc := ⟨.hbm, 51, rfl⟩
abbrev main_indices_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.GatherTile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The two calls are one kernel -/

set_option maxRecDepth 65536 in
theorem cc1_eq_cc0 [FloatOps F] : cc1_kern (F := F) = cc0_kern (F := F) := rfl

theorem cond1 (L : grid0.Coords) : k0_cond1 L ≠ 1#1 := by revert L; decide +kernel
theorem cond2 (L : grid0.Coords) : k0_cond2 L = 1#1 := by revert L; decide +kernel
theorem cond5 (L : grid0.Coords) : k0_cond5 L = 1#1 := by revert L; decide +kernel
theorem cond7 (L : grid0.Coords) : k0_cond7 L ≠ 1#1 := by revert L; decide +kernel

/-! ## The body, normalised: the conditionals decided, the offsets in closed form -/

abbrev ΛP : Labels := Pipeline.Sig Λ₀ (Fin 0) fun p => (pcfgs (F := F) p).Adm
abbrev K : SparseCore.Cfg τ sig (ΛP (F := F)) 2 := sc (F := F)
abbrev 𝒱₀ : Variants := Variants.none

abbrev UH : Type := URounds (GSem nD τ sig) ℕ
abbrev UU : Type := UH × Counters

local notation "𝕄" => MT nD τ sig (HIx 2) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

variable (xM : Memref sig .scVector .hbm S10000x128 .f32) (hx : xM.IsWhole)
  (iM : Memref sig .scVector .hbm S32x80 .i32) (hi : iM.IsWhole)
  (oM : Memref sig .scVector .hbm S2560x128 .f32) (ho : oM.IsWhole)
  (sM : Memref sig .scVector .vmem S2x1x80 .i32) (hs : sM.IsWhole)
  (rM : Memref sig .scVector .vmem S2x80x128 .f32) (hr : rM.IsWhole)
  (semI : DmaSems sig S2) (semO : DmaSems sig S2) (semG : DmaSems sig S_)

variable [FloatOps F]

/-- Row `w` of a table of ten thousand rows, at lane `c`; a word past the last row names the last. -/
def rowOf (tab : S10000x128.Idx → Elt F .f32) (w : BitVec 32) (c : Fin 128) : Elt F .f32 :=
  tab (ix2 ⟨min w.toNat 9999, by omega⟩ c)

/-- Row `16 c + s` of the index table, as the task on tile `(c, s)` names it. -/
abbrev iRow : Memref sig .scVector .hbm S1x80 .i32 :=
  iM.slice (Rect.unit (s := S32x80) (k0_off2 L) S1x80.size (k0_off2_inb L)) (fun _ => rfl)
/-- Its block of eighty rows of the output. -/
abbrev oBlk : Memref sig .scVector .hbm S80x128 .f32 :=
  oM.slice (Rect.unit (s := S2560x128) (k0_off18 L) S80x128.size (k0_off18_inb L)) (fun _ => rfl)

/-- Slot zero of the index scratch. -/
abbrev sSlot : Memref sig .scVector .vmem S1x80 .i32 :=
  (sM.slice (Rect.unit (s := S2x1x80) (k0_off1) S1x1x80.size (k0_off1_inb)) (fun _ => rfl)).squeeze S1x80 squeezes_S1x1x80_S1x80
/-- The list of eighty row numbers in it. -/
abbrev sList : Memref sig .scVector .vmem S80 .i32 :=
  ((sSlot sM).slice (Rect.unit (s := S1x80) ![0, 0] S1x80.size inb_S1x80_S1x80_0_0) (fun _ => rfl)).squeeze S80 squeezes_S1x80_S80

/-- The list's words after slot zero was filled: word `x` is the filling's own at `x`. -/
theorem sList_read (fs : Buf (Elt F) (sM.view.loc (tV d L))) (w : S1x80.Idx → Elt F .i32) (x : S80.Idx) :
    (sList sM).view.read (Elt F) ((sSlot sM).view.write (Elt F) fs w Finset.univ) x
      = w ((Rect.unit (s := S1x80) ![0, 0] S1x80.size inb_S1x80_S1x80_0_0).emb (Shape.reshapeEquiv squeezes_S1x80_S80.numel_eq x)) :=
  congrFun (View.read_write_univ (v := (sSlot sM).view) fs w) _

abbrev sem0 (v : DmaSems sig S2) : DmaSems sig S_ :=
  (v.slice (Rect.unit (s := S2) k0_off3 S1.size k0_off3_inb)).squeeze S_ squeezes_S1_S_

/-- What was written into a slot of the row scratch is what the same slot, named by an equal offset, reads. -/
theorem slot_read {off off' : Fin 3 → ℕ} (h : off' = off) (inb : ∀ a, off a + S1x80x128.size a ≤ S2x80x128.size a)
    (inb' : ∀ a, off' a + S1x80x128.size a ≤ S2x80x128.size a) (f : Buf (Elt F) (rM.view.loc (tV d L))) (w : S80x128.Idx → Elt F .f32) :
    ((rM.slice (Rect.unit (s := S2x80x128) off' S1x80x128.size inb') (fun _ => rfl)).squeeze S80x128 squeezes_S1x80x128_S80x128).view.read (Elt F)
        (((rM.slice (Rect.unit (s := S2x80x128) off S1x80x128.size inb) (fun _ => rfl)).squeeze S80x128 squeezes_S1x80x128_S80x128).view.write (Elt F) f w Finset.univ) = w := by
  subst h; exact View.read_write_univ _ _

/-- The gather's payload at `(n, c)`: the table's row that word `n` of the list names, at lane `c`. -/
theorem gather_val (hg : S10000x128.Gathers 0 S80x128) (tab : S10000x128.Idx → Elt F .f32) (w : S1x80.Idx → BitVec 32)
    (lst : S80.Idx → Elt F .i32)
    (hl : ∀ x, lst x = w ((Rect.unit (s := S1x80) ![0, 0] S1x80.size inb_S1x80_S1x80_0_0).emb (Shape.reshapeEquiv squeezes_S1x80_S80.numel_eq x)))
    (hn : S80.numel = S80x128.size hg.axis') (hin : ∀ x, (lst x).toNat < S10000x128.size hg.axis)
    (hw : ∀ j, (w j).toNat < 10000) (j : S80x128.Idx) :
    SparseCore.gatherPayload hg (fun y => tab ((Rect.unit (s := S10000x128) ![0, 0] S10000x128.size inb_S10000x128_S10000x128_0_0).emb y))
      (SparseCore.rows lst hn hin) j = rowOf tab (w (ix2 0 (j 0))) (j 1) := by
  have hk : ∀ k : Fin 80, (Rect.unit (s := S1x80) ![0, 0] S1x80.size inb_S1x80_S1x80_0_0).emb
      (Shape.reshapeEquiv squeezes_S1x80_S80.numel_eq (S80.rowMajor.symm (k.cast hn.symm))) = ix2 0 k := fun k => by
    rw [Shape.reshapeEquiv_eq_of_rowMajor (y := ix2 0 k) squeezes_S1x80_S80.numel_eq (by
      rw [Shape.rowMajor_val_two, Equiv.apply_symm_apply]
      show 0 * 80 + k.val = k.val
      omega)]
    funext a
    apply Fin.ext
    rw [Rect.emb_apply]
    match a with
    | 0 => rfl
    | 1 => show 0 + 1 * k.val = k.val; omega
  have key : (Rect.unit (s := S10000x128) ![0, 0] S10000x128.size inb_S10000x128_S10000x128_0_0).emb (hg.idx (SparseCore.rows lst hn hin) j)
      = ix2 ⟨min (w (ix2 0 (j 0))).toNat 9999, by omega⟩ (j 1) := by
    funext a
    apply Fin.ext
    rw [Rect.emb_apply]
    match a with
    | 0 =>
      have h1 := congrArg Fin.val (Shape.Gathers.idx_axis hg (SparseCore.rows lst hn hin) j)
      show 0 + 1 * (hg.idx (SparseCore.rows lst hn hin) j hg.axis).val = min (w (ix2 0 (j 0))).toNat 9999
      rw [h1]
      unfold SparseCore.rows
      show 0 + 1 * (BitVec.toNat (lst (S80.rowMajor.symm (Fin.cast hn.symm (j 0))))) = _
      rw [hl]
      refine (congrArg (fun y => 0 + 1 * (w y).toNat) (hk (j 0))).trans ?_
      have := hw (ix2 0 (j 0))
      omega
    | 1 =>
      have h1 := Shape.Gathers.idx_of_ne hg (SparseCore.rows lst hn hin) j (1 : Fin 2) (by decide)
      show 0 + 1 * (hg.idx (SparseCore.rows lst hn hin) j (1 : Fin 2)).val = (j 1).val
      rw [h1]
      show 0 + 1 * (j 1).val = _
      omega
  exact congrArg tab key

theorem sem_unit (off : Fin 1 → ℕ) (h : off = ![0]) (inb : ∀ a, off a + S1.size a ≤ S2.size a) :
    ((semO.slice (Rect.unit (s := S2) off S1.size inb)).squeeze S_ squeezes_S1_S_).sem = (sem0 semO).sem := by
  subst h; rfl

theorem sem19 : ((semO.slice (Rect.unit (s := S2) (k0_off19 L) S1.size (k0_off19_inb L))).squeeze S_ squeezes_S1_S_).sem = (sem0 semO).sem :=
  sem_unit semO _ (k0_off19_eq L) _

set_option maxRecDepth 65536 in
theorem tile_body (q : PosShare TreeShare) (fx : Buf (Elt F) (xM.view.loc (tV d L))) (fi : Buf (Elt F) (iM.view.loc (tV d L)))
    (fo : Buf (Elt F) (oM.view.loc (tV d L)))
    (fs : Buf (Elt F) (sM.view.loc (tV d L))) (fr : Buf (Elt F) (rM.view.loc (tV d L)))
    (hin : ∀ j : S1x80.Idx, ((iRow L iM).view.read (Elt F) fi j).toNat < 10000)
    (O : CellTallies nD τ sig (HIx 2)) (W : Waits sig (HIx 2)) :
    iprop(Transfers.MayWaits (tV d L) (default : HIx 2) O
        ∗ (xM.view.loc (tV d L) ↦[xM.view.set]{q} fx) ∗ ((iRow L iM).view.loc (tV d L) ↦[(iRow L iM).view.set]{fullShare} fi)
        ∗ ((oBlk L oM).view.loc (tV d L) ↦[(oBlk L oM).view.set]{fullShare} fo)
        ∗ (sM.view.loc (tV d L) ↦[sM.view.set]{fullShare} fs) ∗ (rM.view.loc (tV d L) ↦[rM.view.set]{fullShare} fr)
        ∗ semVal (tV d L, .dma (sem0 semI).sem) 0 ∗ semVal (tV d L, .dma (sem0 semO).sem) 0 ∗ semVal (tV d L, .dma semG.sem) 0
        ∗ owes (tV d L) O W)
      ⊢ wp frame (wpE (defs₀ (F := F)) 𝒱₀ (tV d L) none) Set.univ
          (cc0_kern L xM hx iM hi oM ho sM hs semI rM hr semO semG)
          fun _ => (iprop((xM.view.loc (tV d L) ↦[xM.view.set]{q} fx) ∗ ((iRow L iM).view.loc (tV d L) ↦[(iRow L iM).view.set]{fullShare} fi)
            ∗ (∃ g, ⌜∀ j, (oBlk L oM).view.read (Elt F) g j
                  = rowOf (xM.view.read (Elt F) fx) ((iRow L iM).view.read (Elt F) fi (ix2 0 (j 0))) (j 1)⌝
                ∗ ((oBlk L oM).view.loc (tV d L) ↦[(oBlk L oM).view.set]{fullShare} g))
            ∗ (∃ f, sM.view.loc (tV d L) ↦[sM.view.set]{fullShare} f) ∗ (∃ f, rM.view.loc (tV d L) ↦[rM.view.set]{fullShare} f)
            ∗ semVal (tV d L, .dma (sem0 semI).sem) 0 ∗ semVal (tV d L, .dma (sem0 semO).sem) 0 ∗ semVal (tV d L, .dma semG.sem) 0
            ∗ ∃ W', ⌜∀ p ∈ W', p ∈ W ∨ p.2 = none⌝ ∗ owes (tV d L) O W') : sProp 𝕄) := by
  rw [cc0_kern_eq_skeleton]; unfold cc0_kern_skel
  have c1 := cond1 L
  have c2 := cond2 L
  have c5 := cond5 L
  have c7 := cond7 L
  have hlist : ∀ x : S80.Idx, BitVec.toNat ((sList sM).view.read (Elt F)
      ((sSlot sM).view.write (Elt F) fs ((iRow L iM).view.read (Elt F) fi) Finset.univ) x) < 10000 := fun x => by
    rw [sList_read]; exact hin _
  iintro ⟨#Hmw, Hx, Hi, Ho, Hs, Hr, HsemI, HsemO, HsemG, HO⟩
  sl_exec
  rw [sem19]
  sl_exec
  sl_step
  isplitl [Hx]; · iexact Hx
  isplitl [Hi]; · iexact Hi
  isplitl [Ho]
  · iexists _
    isplitr
    rotate_left
    · iexact Ho
    ipureintro
    intro j
    rw [← View.write_univ_eq_writes_whole, View.writes_nil, View.read_write_univ]
    unfold tile_body.sl.dma0_1
    unfold tile_body.sl.gather1
    refine (congrFun (slot_read d L rM (by rw [k0_off11_eq, k0_off10_eq]) _ _ fr _) j).trans ?_
    exact gather_val _ (xM.view.read (Elt F) fx) ((iRow L iM).view.read (Elt F) fi) _ (fun x => sList_read d L sM fs _ x) _ _ hin j
  isplitl [Hs]; · iexists _; iexact Hs
  isplitl [Hr]; · iexists _; iexact Hr
  isplitl [HsemI]; · iexact HsemI
  isplitl [HsemO]; · iexact HsemO
  isplitl [HsemG]; · iexact HsemG
  iexists _
  isplitr
  rotate_left
  · iexact HO
  ipureintro
  intro p hp
  simp only [Finset.mem_insert] at hp
  rcases hp with rfl | rfl | rfl | hp
  · exact Or.inr rfl
  · exact Or.inr rfl
  · exact Or.inr rfl
  · exact Or.inl hp

end Tile

end Cert.Proof.GatherTile

end
-- ==== Proof.GatherLaunch.lean ====
module

public import proofs.«01_k».proof.Proof.GatherTile

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

theorem nCore_zero : (K (F := F)).nCore 0 = 2 := rfl
theorem nCore_one : (K (F := F)).nCore 1 = 2 := rfl
theorem nSub_zero : (K (F := F)).nSub 0 = 16 := rfl
theorem nSub_one : (K (F := F)).nSub 1 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

abbrev EH : Emb UH (MT nD τ sig (HIx 2) (Elt F) ℕ UU ℕ) := embL

/-- The task's coordinates from its SparseCore and tile. -/
def coordsV (c : Fin (grid0.bound 0)) (s : Fin (grid0.bound 1)) : grid0.Coords :=
  fun | 0 => c | 1 => s | ⟨_ + 2, h⟩ => absurd h (Nat.not_lt.2 (Nat.le_add_left _ _))

/-! ## The rows of the index table and the blocks of the output, one per task -/

/-- The index table's row of task `L`, -/
abbrev iSet (L : grid0.Coords) : Finset S32x80.Idx := (Rect.unit (s := S32x80) (k0_off2 L) S1x80.size (k0_off2_inb L)).set
/-- the output's block of eighty rows. -/
abbrev oSet (L : grid0.Coords) : Finset S2560x128.Idx := (Rect.unit (s := S2560x128) (k0_off18 L) S80x128.size (k0_off18_inb L)).set
/-- The share of the table that task `L` reads. -/
abbrev tok (L : grid0.Coords) : PosShare TreeShare := Transfers.shareTokN fullShare ((L 1).val + 16 * (L 0).val)
/-- Every task's coordinates, as a pair. -/
abbrev pairL (p : Fin 2 × Fin 16) : grid0.Coords := coordsV p.1 p.2

theorem mem_iSet (L : grid0.Coords) (y : S32x80.Idx) : y ∈ iSet L ↔ (y 0).val = (L 1).val + 16 * (L 0).val := by
  unfold iSet
  rw [Rect.mem_set_unit, k0_off2_eq]
  constructor
  · intro h
    have h0 : (L 1).val + 16 * (L 0).val ≤ (y 0).val ∧ (y 0).val < (L 1).val + 16 * (L 0).val + 1 := h 0
    omega
  · intro h a
    match a with
    | 0 => show (L 1).val + 16 * (L 0).val ≤ (y 0).val ∧ (y 0).val < (L 1).val + 16 * (L 0).val + 1; omega
    | 1 => have := (y 1).isLt; exact ⟨Nat.zero_le _, by show (y 1).val < 0 + 80; have : (y 1).val < 80 := this; omega⟩

theorem mem_oSet (L : grid0.Coords) (y : S2560x128.Idx) : y ∈ oSet L ↔ (y 0).val / 80 = (L 1).val + 16 * (L 0).val := by
  unfold oSet
  rw [Rect.mem_set_unit, k0_off18_eq]
  constructor
  · intro h
    have h0 : 80 * (L 1).val + 1280 * (L 0).val ≤ (y 0).val ∧ (y 0).val < 80 * (L 1).val + 1280 * (L 0).val + 80 := h 0
    omega
  · intro h a
    match a with
    | 0 => show 80 * (L 1).val + 1280 * (L 0).val ≤ (y 0).val ∧ (y 0).val < 80 * (L 1).val + 1280 * (L 0).val + 80; omega
    | 1 => have := (y 1).isLt; exact ⟨Nat.zero_le _, by show (y 1).val < 0 + 128; have : (y 1).val < 128 := this; omega⟩

theorem pair_of (p : Fin 2 × Fin 16) : ((pairL p) 1).val + 16 * ((pairL p) 0).val = p.2.val + 16 * p.1.val := rfl

theorem pair_inj {p p' : Fin 2 × Fin 16} (h : p.2.val + 16 * p.1.val = p'.2.val + 16 * p'.1.val) : p = p' := by
  have := p.2.isLt; have := p'.2.isLt
  exact Prod.ext (Fin.ext (by omega)) (Fin.ext (by omega))

theorem iSet_disjoint : ∀ p ∈ (Finset.univ : Finset (Fin 2 × Fin 16)), ∀ p' ∈ (Finset.univ : Finset (Fin 2 × Fin 16)), p ≠ p' →
    Disjoint (iSet (pairL p)) (iSet (pairL p')) := fun p _ p' _ h =>
  Finset.disjoint_left.mpr fun y hy hy' => h (pair_inj (((mem_iSet _ y).mp hy).symm.trans ((mem_iSet _ y).mp hy')))
theorem oSet_disjoint : ∀ p ∈ (Finset.univ : Finset (Fin 2 × Fin 16)), ∀ p' ∈ (Finset.univ : Finset (Fin 2 × Fin 16)), p ≠ p' →
    Disjoint (oSet (pairL p)) (oSet (pairL p')) := fun p _ p' _ h =>
  Finset.disjoint_left.mpr fun y hy hy' => h (pair_inj (((mem_oSet _ y).mp hy).symm.trans ((mem_oSet _ y).mp hy')))
theorem iSet_cover : (Finset.univ : Finset (Fin 2 × Fin 16)).biUnion (fun p => iSet (pairL p)) = Finset.univ :=
  Finset.eq_univ_iff_forall.mpr fun y => Finset.mem_biUnion.mpr
    ⟨(⟨(y 0).val / 16, by have : (y 0).val < 32 := (y 0).isLt; omega⟩, ⟨(y 0).val % 16, by omega⟩), Finset.mem_univ _,
      (mem_iSet _ y).mpr (by rw [pair_of]; show _ = (y 0).val % 16 + 16 * ((y 0).val / 16); omega)⟩
theorem oSet_cover : (Finset.univ : Finset (Fin 2 × Fin 16)).biUnion (fun p => oSet (pairL p)) = Finset.univ :=
  Finset.eq_univ_iff_forall.mpr fun y => Finset.mem_biUnion.mpr
    ⟨(⟨(y 0).val / 80 / 16, by have : (y 0).val < 2560 := (y 0).isLt; omega⟩, ⟨(y 0).val / 80 % 16, by omega⟩), Finset.mem_univ _,
      (mem_oSet _ y).mpr (by rw [pair_of]; show _ = (y 0).val / 80 % 16 + 16 * ((y 0).val / 80 / 16); omega)⟩

/-- A buffer held whole is its pieces, one per task, when the pieces are disjoint and cover it. -/
theorem whole_pieces {ℓ : Loc nD τ sig} (R : Fin 2 × Fin 16 → Finset (Idx ℓ))
    (hd : ∀ p ∈ (Finset.univ : Finset (Fin 2 × Fin 16)), ∀ p' ∈ (Finset.univ : Finset (Fin 2 × Fin 16)), p ≠ p' → Disjoint (R p) (R p'))
    (hc : (Finset.univ : Finset (Fin 2 × Fin 16)).biUnion R = Finset.univ) (f : Buf (Elt F) ℓ) :
    (ℓ ↦{fullShare} f : sProp 𝕄) = bigSep Finset.univ fun p : Fin 2 × Fin 16 => ℓ ↦[R p]{fullShare} f := by
  rw [← pointsTo_biUnion Finset.univ R hd, hc]

/-- A buffer held whole is one read share per task, and a share kept. -/
theorem whole_tokens {ℓ : Loc nD τ sig} (f : Buf (Elt F) ℓ) :
    (ℓ ↦{fullShare} f : sProp 𝕄) = iprop((ℓ ↦{Transfers.shareDrop fullShare 32} f) ∗ bigSep Finset.univ fun p : Fin 2 × Fin 16 => ℓ ↦{tok (pairL p)} f) := by
  have h := Transfers.pointsTo_toks (Ix := HIx 2) (Name := ℕ) (U := UU) (Lvl := ℕ) (S := Finset.univ) (f := f) (ℓ := ℓ) fullShare 32
  rw [BI.Entails.antisymm h.1 h.2, bigSep_univ_equiv (finProdFinEquiv : Fin 2 × Fin 16 ≃ Fin 32)]
  rfl

/-- Pieces at some contents, from pieces at known ones. -/
theorem pieces_ex {ℓ : Loc nD τ sig} (R : Fin 2 × Fin 16 → Finset (Idx ℓ)) (f : Buf (Elt F) ℓ) :
    (bigSep Finset.univ fun p : Fin 2 × Fin 16 => (ℓ ↦[R p]{fullShare} f : sProp 𝕄))
      ⊢ bigSep Finset.univ fun p : Fin 2 × Fin 16 => (iprop(∃ f, ℓ ↦[R p]{fullShare} f) : sProp 𝕄) :=
  bigSep_mono fun p _ => show (ℓ ↦[R p]{fullShare} f : sProp 𝕄) ⊢ iprop(∃ f, ℓ ↦[R p]{fullShare} f) by iintro H; iexists f; iexact H

theorem bigSep_none {I : Type} (s : Finset I) : (bigSep s fun _ => iprop(emp)) = (iprop(emp) : sProp 𝕄) := bigSep_emp_const s

/-! ## The gathered rows -/

/-- Row `n` of the output: the table's row that word `n` of the index table names. -/
def gathered (tab : S10000x128.Idx → Elt F .f32) (ix : S32x80.Idx → BitVec 32) (y : S2560x128.Idx) : Elt F .f32 :=
  rowOf tab (ix (ix2 ⟨(y 0).val / 80, by have : (y 0).val < 2560 := (y 0).isLt; omega⟩ ⟨(y 0).val % 80, by omega⟩)) (y 1)

theorem gathered_block (tab : S10000x128.Idx → Elt F .f32) (ix : S32x80.Idx → BitVec 32) (L : grid0.Coords) (j : S80x128.Idx) :
    gathered tab ix ((Rect.unit (s := S2560x128) (k0_off18 L) S80x128.size (k0_off18_inb L)).emb j)
      = rowOf tab (ix ((Rect.unit (s := S32x80) (k0_off2 L) S1x80.size (k0_off2_inb L)).emb (ix2 0 (j 0)))) (j 1) := by
  have hj : (j 0).val < 80 := (j 0).isLt
  have e18 := k0_off18_eq L
  have e2 := k0_off2_eq L
  have h0 : (((Rect.unit (s := S2560x128) (k0_off18 L) S80x128.size (k0_off18_inb L)).emb j) 0).val = 80 * (L 1).val + 1280 * (L 0).val + (j 0).val := by
    rw [Rect.emb_apply]
    show k0_off18 L 0 + 1 * (j 0).val = _
    rw [e18]; show 80 * (L 1).val + 1280 * (L 0).val + 1 * (j 0).val = _; omega
  have h1 : (((Rect.unit (s := S2560x128) (k0_off18 L) S80x128.size (k0_off18_inb L)).emb j) 1).val = (j 1).val := by
    rw [Rect.emb_apply]
    show k0_off18 L 1 + 1 * (j 1).val = _
    rw [e18]; show 0 + 1 * (j 1).val = _; omega
  unfold gathered
  have e1 : (((Rect.unit (s := S2560x128) (k0_off18 L) S80x128.size (k0_off18_inb L)).emb j) 1) = j 1 := Fin.ext h1
  rw [e1]
  congr 2
  funext a
  apply Fin.ext
  match a with
  | 0 =>
    show (((Rect.unit (s := S2560x128) (k0_off18 L) S80x128.size (k0_off18_inb L)).emb j) 0).val / 80 = k0_off2 L 0 + 1 * 0
    rw [h0, e2]; show _ = (L 1).val + 16 * (L 0).val + 1 * 0; omega
  | 1 =>
    show (((Rect.unit (s := S2560x128) (k0_off18 L) S80x128.size (k0_off18_inb L)).emb j) 0).val % 80 = k0_off2 L 1 + 1 * (j 0).val
    rw [h0, e2]; show _ = 0 + 1 * (j 0).val; omega

/-- Contents that agree with the gathered rows on a task's block. -/
theorem gathered_agree (tab : S10000x128.Idx → Elt F .f32) (ix : S32x80.Idx → BitVec 32) (L : grid0.Coords) (g : S2560x128.Idx → Elt F .f32)
    (hg : ∀ j : S80x128.Idx, g ((Rect.unit (s := S2560x128) (k0_off18 L) S80x128.size (k0_off18_inb L)).emb j)
      = rowOf tab (ix ((Rect.unit (s := S32x80) (k0_off2 L) S1x80.size (k0_off2_inb L)).emb (ix2 0 (j 0)))) (j 1)) :
    ∀ y ∈ oSet L, g y = gathered tab ix y := by
  intro y hy
  rw [oSet, ← Rect.map_emb_univ] at hy
  obtain ⟨j, -, rfl⟩ := Finset.mem_map.mp hy
  exact (hg j).trans (gathered_block tab ix L j).symm

/-! ## A tile's scratch and semaphores among its own -/

/-- Three semaphores of a subcore's own, at zero, and the rest. -/
theorem ownSems_three (thr : Thread nD τ) (a b c : SemLoc sig) (ha : a.isScoped thr.2.kind = true) (hb : b.isScoped thr.2.kind = true)
    (hc : c.isScoped thr.2.kind = true) (hab : a ≠ b) (hac : a ≠ c) (hbc : b ≠ c) :
    (ownSems0 thr : sProp 𝕄)
      = iprop(semVal (thr, a) 0 ∗ semVal (thr, b) 0 ∗ semVal (thr, c) 0
          ∗ bigSep ((((ownCells thr).erase (thr, a)).erase (thr, b)).erase (thr, c)) fun g => semVal g 0) := by
  unfold SparseCore.Cfg.ownSems0
  rw [SparseCore.bigSep_erase' ((mem_ownCells (g := (thr, a))).mpr ⟨rfl, ha⟩),
    SparseCore.bigSep_erase' (Finset.mem_erase.mpr ⟨fun e => hab (Prod.mk.inj e).2.symm, (mem_ownCells (g := (thr, b))).mpr ⟨rfl, hb⟩⟩),
    SparseCore.bigSep_erase' (Finset.mem_erase.mpr ⟨fun e => hbc (Prod.mk.inj e).2.symm, Finset.mem_erase.mpr ⟨fun e => hac (Prod.mk.inj e).2.symm,
      (mem_ownCells (g := (thr, c))).mpr ⟨rfl, hc⟩⟩⟩)]

/-- Two scratch buffers of a subcore's own, at some contents, and the rest. -/
theorem ownBufs_two (d : Dev nD) (c : Fin τ.nSC) (i : Fin τ.nSub) (r r' : Ref sig .scVector)
    (h : ((Proc.scVector c i).devRef r).owner = .proc (Proc.scVector c i)) (h' : ((Proc.scVector c i).devRef r').owner = .proc (Proc.scVector c i))
    (hne : r' ≠ r) :
    (ownBufs (V d c i) : sProp 𝕄)
      = iprop((∃ f, (V d c i).loc r ↦{fullShare} f) ∗ (∃ f, (V d c i).loc r' ↦{fullShare} f)
          ∗ bigSep (((ownRefs (τ := τ) (.scVector c i)).erase ((Proc.scVector c i).devRef r)).erase ((Proc.scVector c i).devRef r'))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef r) h)).trans ?_
  rw [SparseCore.bigSep_erase' (Finset.mem_erase.mpr ⟨fun e => absurd (Proc.devRef_injective _ e) hne,
    SparseCore.Cfg.mem_ownRefs_of_owner (p := Proc.scVector c i) (b := (Proc.scVector c i).devRef r') h'⟩)]

variable [FloatOps F]

/-! ## Call 0 -/

abbrev xLoc0 (d : Dev nD) : Loc nD τ sig := (SparseCore.T d).loc main_arg0
abbrev iLoc0 (d : Dev nD) : Loc nD τ sig := (SparseCore.T d).loc main_v2
abbrev oLoc0 (d : Dev nD) : Loc nD τ sig := (SparseCore.T d).loc main_v3

/-- What call 0 hands task `L`: its share of the table, its row of the index table, its block of the output; -/
abbrev GO0 (tab : S10000x128.Idx → Elt F .f32) (ix : S32x80.Idx → Elt F .i32) (d : Dev nD) (L : grid0.Coords) : sProp 𝕄 :=
  iprop((xLoc0 d ↦{tok L} tab) ∗ (iLoc0 d ↦[iSet L]{fullShare} ix) ∗ ∃ f, oLoc0 d ↦[oSet L]{fullShare} f)
/-- what the task hands back: the block at the gathered rows. -/
abbrev TD0 (tab : S10000x128.Idx → Elt F .f32) (ix : S32x80.Idx → Elt F .i32) (d : Dev nD) (L : grid0.Coords) : sProp 𝕄 :=
  iprop((xLoc0 d ↦{tok L} tab) ∗ (iLoc0 d ↦[iSet L]{fullShare} ix) ∗ oLoc0 d ↦[oSet L]{fullShare} gathered tab ix)

theorem set_i0 (L : grid0.Coords) : (iRow L (Memref.whole main_v2_scv)).view.set = iSet L := by
  show ((View.whole (main_v2_scv : Ref sig .scVector)).slice _).set = _
  rw [View.set_slice]; exact Finset.map_refl
theorem set_o0 (L : grid0.Coords) : (oBlk L (Memref.whole main_v3_scv)).view.set = oSet L := by
  show ((View.whole (main_v3_scv : Ref sig .scVector)).slice _).set = _
  rw [View.set_slice]; exact Finset.map_refl
theorem set_x0 : (Memref.whole main_arg0_scv : Memref sig .scVector .hbm S10000x128 .f32).view.set = Finset.univ := View.set_whole _

theorem set_s0 : (Memref.whole cc0_scoped0).view.set = Finset.univ := View.set_whole _
theorem set_r0 : (Memref.whole cc0_scoped2).view.set = Finset.univ := View.set_whole _

/-- The task of call 0 on tile `L`. -/
theorem tile_task0 (tab : S10000x128.Idx → Elt F .f32) (ix : S32x80.Idx → Elt F .i32) (hix : ∀ y, (ix y : BitVec 32).toNat < 10000)
    (d : Dev nD) (L : grid0.Coords) (O : CellTallies nD τ sig (HIx 2)) (W : Waits sig (HIx 2)) (hO : ∀ g, O g none = 0) :
    iprop(levAts (K (F := F)).L (K (F := F)).lev ∗ emp ∗ GO0 tab ix d L
        ∗ scopedBufs (tV d L) ∗ scopedSems0 (tV d L) ∗ owes (tV d L) O W)
      ⊢ wp frame (wpE (defs₀ (F := F)) 𝒱₀ (tV d L) none) Set.univ
          (cc0_kern L (Memref.whole main_arg0_scv) (Memref.isWhole_whole _) (Memref.whole main_v2_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4)
          fun _ => (iprop(TD0 tab ix d L ∗ scopedBufs (tV d L) ∗ scopedSems0 (tV d L)
            ∗ ∃ W', ⌜∀ p ∈ W', p ∈ W ∨ p.2 = none⌝ ∗ owes (tV d L) O W') : sProp 𝕄) := by
  rw [(K (F := F)).scopedBufs_V facts d (cV L) (jV L), SparseCore.Cfg.scopedSems0_V (Val := Elt F) d (cV L) (jV L),
    ownSems_three (tV d L) (.dma (sem0 cc0_scoped1).sem) (.dma (sem0 cc0_scoped3).sem) (.dma cc0_scoped4.sem)
      (show (SemLoc.dma (sem0 cc0_scoped1).sem : SemLoc sig).isScoped .scVector = true by decide)
      (show (SemLoc.dma (sem0 cc0_scoped3).sem : SemLoc sig).isScoped .scVector = true by decide)
      (show (SemLoc.dma cc0_scoped4.sem : SemLoc sig).isScoped .scVector = true by decide) (by decide) (by decide) (by decide),
    ownBufs_two d (cV L) (jV L) cc0_scoped0 cc0_scoped2 rfl rfl (by decide)]
  iintro ⟨#Hlv, -, ⟨Hx, Hi, %fo, Ho⟩, ⟨⟨%fs, Hs⟩, ⟨%fr, Hr⟩, Hbufs⟩, ⟨HsemI, HsemO, HsemG, Hsems⟩, HO⟩
  ihave Hmw := (show levAts (K (F := F)).L (K (F := F)).lev ⊢ (Transfers.MayWaits (tV d L) (default : HIx 2) O : sProp 𝕄) from
    (K (F := F)).mayWaits_none (thr := tV d L) hO) $$ Hlv
  iapply (wp_wand frame (wpE (defs₀ (F := F)) 𝒱₀ (tV d L) none) Set.univ) $$ [Hmw Hx Hi Ho Hs Hr HsemI HsemO HsemG HO]
  · iapply (tile_body d L (Memref.whole main_arg0_scv) (Memref.isWhole_whole _) (Memref.whole main_v2_scv) (Memref.isWhole_whole _)
      (Memref.whole main_v3_scv) (Memref.isWhole_whole _) (Memref.whole cc0_scoped0) (Memref.isWhole_whole _)
      (Memref.whole cc0_scoped2) (Memref.isWhole_whole _) cc0_scoped1 cc0_scoped3 cc0_scoped4 (tok L) tab ix fo fs fr (fun j => hix _) O W)
    isplitl [Hmw]; · iexact Hmw
    isplitl [Hx]; · rw [set_x0]; iexact Hx
    isplitl [Hi]; · rw [set_i0]; iexact Hi
    isplitl [Ho]; · rw [set_o0]; iexact Ho
    isplitl [Hs]; · rw [set_s0]; iexact Hs
    isplitl [Hr]; · rw [set_r0]; iexact Hr
    isplitl [HsemI]; · iexact HsemI
    isplitl [HsemO]; · iexact HsemO
    isplitl [HsemG]; · iexact HsemG
    iexact HO
  · iintro %_ ⟨Hx, Hi, ⟨%g, %hg, Ho⟩, ⟨%fs', Hs⟩, ⟨%fr', Hr⟩, HsemI, HsemO, HsemG, HO⟩
    isplitl [Hx Hi Ho]
    · isplitl [Hx]; · rw [set_x0]; iexact Hx
      isplitl [Hi]; · rw [set_i0]; iexact Hi
      rw [set_o0]
      iapply (Entails.of_eq (pointsTo_congr (gathered_agree tab ix L g hg))) $$ Ho
    isplitl [Hs Hr Hbufs]
    · isplitl [Hs]; · rw [set_s0]; iexists _; iexact Hs
      isplitl [Hr]; · rw [set_r0]; iexists _; iexact Hr
      iexact Hbufs
    isplitl [HsemI HsemO HsemG Hsems]
    · isplitl [HsemI]; · iexact HsemI
      isplitl [HsemO]; · iexact HsemO
      isplitl [HsemG]; · iexact HsemG
      iexact Hsems
    iexact HO

/-! ## Call 1 -/

abbrev xLoc1 (d : Dev nD) : Loc nD τ sig := (SparseCore.T d).loc main_arg1
abbrev iLoc1 (d : Dev nD) : Loc nD τ sig := (SparseCore.T d).loc main_v6
abbrev oLoc1 (d : Dev nD) : Loc nD τ sig := (SparseCore.T d).loc main_v7

/-- What call 1 hands task `L`: its share of the table, its row of the index table, its block of the output; -/
abbrev GO1 (tab : S10000x128.Idx → Elt F .f32) (ix : S32x80.Idx → Elt F .i32) (d : Dev nD) (L : grid0.Coords) : sProp 𝕄 :=
  iprop((xLoc1 d ↦{tok L} tab) ∗ (iLoc1 d ↦[iSet L]{fullShare} ix) ∗ ∃ f, oLoc1 d ↦[oSet L]{fullShare} f)
/-- what the task hands back: the block at the gathered rows. -/
abbrev TD1 (tab : S10000x128.Idx → Elt F .f32) (ix : S32x80.Idx → Elt F .i32) (d : Dev nD) (L : grid0.Coords) : sProp 𝕄 :=
  iprop((xLoc1 d ↦{tok L} tab) ∗ (iLoc1 d ↦[iSet L]{fullShare} ix) ∗ oLoc1 d ↦[oSet L]{fullShare} gathered tab ix)

theorem set_i1 (L : grid0.Coords) : (iRow L (Memref.whole main_v6_scv)).view.set = iSet L := by
  show ((View.whole (main_v6_scv : Ref sig .scVector)).slice _).set = _
  rw [View.set_slice]; exact Finset.map_refl
theorem set_o1 (L : grid0.Coords) : (oBlk L (Memref.whole main_v7_scv)).view.set = oSet L := by
  show ((View.whole (main_v7_scv : Ref sig .scVector)).slice _).set = _
  rw [View.set_slice]; exact Finset.map_refl
theorem set_x1 : (Memref.whole main_arg1_scv : Memref sig .scVector .hbm S10000x128 .f32).view.set = Finset.univ := View.set_whole _

theorem set_s1 : (Memref.whole cc1_scoped0).view.set = Finset.univ := View.set_whole _
theorem set_r1 : (Memref.whole cc1_scoped2).view.set = Finset.univ := View.set_whole _

/-- The task of call 1 on tile `L`. -/
theorem tile_task1 (tab : S10000x128.Idx → Elt F .f32) (ix : S32x80.Idx → Elt F .i32) (hix : ∀ y, (ix y : BitVec 32).toNat < 10000)
    (d : Dev nD) (L : grid0.Coords) (O : CellTallies nD τ sig (HIx 2)) (W : Waits sig (HIx 2)) (hO : ∀ g, O g none = 0) :
    iprop(levAts (K (F := F)).L (K (F := F)).lev ∗ emp ∗ GO1 tab ix d L
        ∗ scopedBufs (tV d L) ∗ scopedSems0 (tV d L) ∗ owes (tV d L) O W)
      ⊢ wp frame (wpE (defs₀ (F := F)) 𝒱₀ (tV d L) none) Set.univ
          (cc1_kern L (Memref.whole main_arg1_scv) (Memref.isWhole_whole _) (Memref.whole main_v6_scv) (Memref.isWhole_whole _)
            (Memref.whole main_v7_scv) (Memref.isWhole_whole _) (Memref.whole cc1_scoped0) (Memref.isWhole_whole _) cc1_scoped1
            (Memref.whole cc1_scoped2) (Memref.isWhole_whole _) cc1_scoped3 cc1_scoped4)
          fun _ => (iprop(TD1 tab ix d L ∗ scopedBufs (tV d L) ∗ scopedSems0 (tV d L)
            ∗ ∃ W', ⌜∀ p ∈ W', p ∈ W ∨ p.2 = none⌝ ∗ owes (tV d L) O W') : sProp 𝕄) := by
  rw [cc1_eq_cc0]
  rw [(K (F := F)).scopedBufs_V facts d (cV L) (jV L), SparseCore.Cfg.scopedSems0_V (Val := Elt F) d (cV L) (jV L),
    ownSems_three (tV d L) (.dma (sem0 cc1_scoped1).sem) (.dma (sem0 cc1_scoped3).sem) (.dma cc1_scoped4.sem)
      (show (SemLoc.dma (sem0 cc1_scoped1).sem : SemLoc sig).isScoped .scVector = true by decide)
      (show (SemLoc.dma (sem0 cc1_scoped3).sem : SemLoc sig).isScoped .scVector = true by decide)
      (show (SemLoc.dma cc1_scoped4.sem : SemLoc sig).isScoped .scVector = true by decide) (by decide) (by decide) (by decide),
    ownBufs_two d (cV L) (jV L) cc1_scoped0 cc1_scoped2 rfl rfl (by decide)]
  iintro ⟨#Hlv, -, ⟨Hx, Hi, %fo, Ho⟩, ⟨⟨%fs, Hs⟩, ⟨%fr, Hr⟩, Hbufs⟩, ⟨HsemI, HsemO, HsemG, Hsems⟩, HO⟩
  ihave Hmw := (show levAts (K (F := F)).L (K (F := F)).lev ⊢ (Transfers.MayWaits (tV d L) (default : HIx 2) O : sProp 𝕄) from
    (K (F := F)).mayWaits_none (thr := tV d L) hO) $$ Hlv
  iapply (wp_wand frame (wpE (defs₀ (F := F)) 𝒱₀ (tV d L) none) Set.univ) $$ [Hmw Hx Hi Ho Hs Hr HsemI HsemO HsemG HO]
  · iapply (tile_body d L (Memref.whole main_arg1_scv) (Memref.isWhole_whole _) (Memref.whole main_v6_scv) (Memref.isWhole_whole _)
      (Memref.whole main_v7_scv) (Memref.isWhole_whole _) (Memref.whole cc1_scoped0) (Memref.isWhole_whole _)
      (Memref.whole cc1_scoped2) (Memref.isWhole_whole _) cc1_scoped1 cc1_scoped3 cc1_scoped4 (tok L) tab ix fo fs fr (fun j => hix _) O W)
    isplitl [Hmw]; · iexact Hmw
    isplitl [Hx]; · rw [set_x1]; iexact Hx
    isplitl [Hi]; · rw [set_i1]; iexact Hi
    isplitl [Ho]; · rw [set_o1]; iexact Ho
    isplitl [Hs]; · rw [set_s1]; iexact Hs
    isplitl [Hr]; · rw [set_r1]; iexact Hr
    isplitl [HsemI]; · iexact HsemI
    isplitl [HsemO]; · iexact HsemO
    isplitl [HsemG]; · iexact HsemG
    iexact HO
  · iintro %_ ⟨Hx, Hi, ⟨%g, %hg, Ho⟩, ⟨%fs', Hs⟩, ⟨%fr', Hr⟩, HsemI, HsemO, HsemG, HO⟩
    isplitl [Hx Hi Ho]
    · isplitl [Hx]; · rw [set_x1]; iexact Hx
      isplitl [Hi]; · rw [set_i1]; iexact Hi
      rw [set_o1]
      iapply (Entails.of_eq (pointsTo_congr (gathered_agree tab ix L g hg))) $$ Ho
    isplitl [Hs Hr Hbufs]
    · isplitl [Hs]; · rw [set_s1]; iexists _; iexact Hs
      isplitl [Hr]; · rw [set_r1]; iexists _; iexact Hr
      iexact Hbufs
    isplitl [HsemI HsemO HsemG Hsems]
    · isplitl [HsemI]; · iexact HsemI
      isplitl [HsemO]; · iexact HsemO
      isplitl [HsemG]; · iexact HsemG
      iexact Hsems
    iexact HO

/-! ## What the handshakes carry -/

section Launch

variable (t₀ t₁ : Dev nD → S10000x128.Idx → Elt F .f32) (x₀ x₁ : Dev nD → S32x80.Idx → Elt F .i32)

/-- Each call takes every task's pieces to the sequencers and each task its own, and brings them back with the block written. -/
def P : (K (F := F)).Pay (nD := nD) (Val := Elt F) (Name := ℕ) (U := UU) where
  st := fun q d c => match q with
    | 0 => bigSep Finset.univ fun i : Fin 16 => GO0 (t₀ d) (x₀ d) d (pairL (Fin.cast nCore_zero c, i))
    | 1 => bigSep Finset.univ fun i : Fin 16 => GO1 (t₁ d) (x₁ d) d (pairL (Fin.cast nCore_one c, i))
  dn := fun q d c => match q with
    | 0 => bigSep Finset.univ fun i : Fin 16 => TD0 (t₀ d) (x₀ d) d (pairL (Fin.cast nCore_zero c, i))
    | 1 => bigSep Finset.univ fun i : Fin 16 => TD1 (t₁ d) (x₁ d) d (pairL (Fin.cast nCore_one c, i))
  go := fun q d c i => match q with
    | 0 => GO0 (t₀ d) (x₀ d) d (pairL (Fin.cast nCore_zero c, Fin.cast nSub_zero i))
    | 1 => GO1 (t₁ d) (x₁ d) d (pairL (Fin.cast nCore_one c, Fin.cast nSub_one i))
  td := fun q d c i => match q with
    | 0 => TD0 (t₀ d) (x₀ d) d (pairL (Fin.cast nCore_zero c, Fin.cast nSub_zero i))
    | 1 => TD1 (t₁ d) (x₁ d) d (pairL (Fin.cast nCore_one c, Fin.cast nSub_one i))
  x := fun _ _ => iprop(emp)

instance P_storable : (P t₀ t₁ x₀ x₁).IsStorable where
  st q d c := match q with
    | 0 => (inferInstance : BI.Storable (upEmb : UEmb _ 𝕄) (bigSep Finset.univ fun i : Fin 16 => GO0 (t₀ d) (x₀ d) d (pairL (Fin.cast nCore_zero c, i))))
    | 1 => (inferInstance : BI.Storable (upEmb : UEmb _ 𝕄) (bigSep Finset.univ fun i : Fin 16 => GO1 (t₁ d) (x₁ d) d (pairL (Fin.cast nCore_one c, i))))
  dn q d c := match q with
    | 0 => (inferInstance : BI.Storable (upEmb : UEmb _ 𝕄) (bigSep Finset.univ fun i : Fin 16 => TD0 (t₀ d) (x₀ d) d (pairL (Fin.cast nCore_zero c, i))))
    | 1 => (inferInstance : BI.Storable (upEmb : UEmb _ 𝕄) (bigSep Finset.univ fun i : Fin 16 => TD1 (t₁ d) (x₁ d) d (pairL (Fin.cast nCore_one c, i))))
  go q d c i := match q with
    | 0 => (inferInstance : BI.Storable (upEmb : UEmb _ 𝕄) (GO0 (t₀ d) (x₀ d) d (pairL (Fin.cast nCore_zero c, Fin.cast nSub_zero i))))
    | 1 => (inferInstance : BI.Storable (upEmb : UEmb _ 𝕄) (GO1 (t₁ d) (x₁ d) d (pairL (Fin.cast nCore_one c, Fin.cast nSub_one i))))
  td q d c i := match q with
    | 0 => (inferInstance : BI.Storable (upEmb : UEmb _ 𝕄) (TD0 (t₀ d) (x₀ d) d (pairL (Fin.cast nCore_zero c, Fin.cast nSub_zero i))))
    | 1 => (inferInstance : BI.Storable (upEmb : UEmb _ 𝕄) (TD1 (t₁ d) (x₁ d) d (pairL (Fin.cast nCore_one c, Fin.cast nSub_one i))))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_kern (coordsV c s)
            (Memref.whole main_arg0_scv) (Memref.isWhole_whole _) (Memref.whole main_v2_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4) ⟨⟩ c s := rfl

set_option maxRecDepth 16384 in
/-- Every tile of call 0 does its task. -/
theorem tileObl0 (hix : ∀ d y, (x₀ d y : BitVec 32).toNat < 10000) : (K (F := F)).TileObl (D (F := F)) 𝒱 (P t₀ t₁ x₀ x₁) v₀ 0 := by
  intro d c i O W hO _ _
  simp only [show (P t₀ t₁ x₀ x₁).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_task0 (t₀ d) (x₀ d) (hix d) d (coordsV ⟨_, hci.1⟩ ⟨_, hci.2⟩) O W hO).trans (wp_mono frame _ _ fun _ => obl_post)

theorem vecSplit0 : (K (F := F)).VecSplit' (P t₀ t₁ x₀ x₁) 0 := by
  intro d c
  show (bigSep Finset.univ fun i : Fin 16 => GO0 (t₀ d) (x₀ d) d (pairL (c, i))) ⊢ |={Set.univ}=> iprop(
      (bigSep Finset.univ fun i : Fin 16 => GO0 (t₀ d) (x₀ d) d (pairL (c, i)))
      ∗ ((bigSep Finset.univ fun i : Fin 16 => TD0 (t₀ d) (x₀ d) d (pairL (c, i)))
          -∗ bigSep Finset.univ fun i : Fin 16 => TD0 (t₀ d) (x₀ d) d (pairL (c, i))))
  iintro H; imodintro
  isplitl [H]; · iexact H
  iintro H; iexact H

/-- What call 0 takes is the table, the index table and the output whole, but for a share of the table the TensorCore keeps;
    what it brings back is the same with the output at the gathered rows. -/
theorem call_split0 (d : Dev nD) (f : S2560x128.Idx → Elt F .f32) :
    iprop((xLoc0 d ↦{fullShare} t₀ d) ∗ (iLoc0 d ↦{fullShare} x₀ d) ∗ oLoc0 d ↦{fullShare} f)
      ⊢ (iprop((bigSep Finset.univ fun c : Fin ((K (F := F)).nCore 0) => (P t₀ t₁ x₀ x₁).st 0 d c)
          ∗ ((bigSep Finset.univ fun c : Fin ((K (F := F)).nCore 0) => (P t₀ t₁ x₀ x₁).dn 0 d c)
            -∗ (xLoc0 d ↦{fullShare} t₀ d) ∗ (iLoc0 d ↦{fullShare} x₀ d) ∗ oLoc0 d ↦{fullShare} gathered (t₀ d) (x₀ d))) : sProp 𝕄) := by
  rw [show (bigSep Finset.univ fun c : Fin ((K (F := F)).nCore 0) => (P t₀ t₁ x₀ x₁).st 0 d c)
      = bigSep Finset.univ fun p : Fin 2 × Fin 16 => GO0 (t₀ d) (x₀ d) d (pairL p) from
        (bigSep_univ_prod (fun p : Fin 2 × Fin 16 => GO0 (t₀ d) (x₀ d) d (pairL p))).symm,
    show (bigSep Finset.univ fun c : Fin ((K (F := F)).nCore 0) => (P t₀ t₁ x₀ x₁).dn 0 d c)
      = bigSep Finset.univ fun p : Fin 2 × Fin 16 => TD0 (t₀ d) (x₀ d) d (pairL p) from
        (bigSep_univ_prod (fun p : Fin 2 × Fin 16 => TD0 (t₀ d) (x₀ d) d (pairL p))).symm,
    bigSep_sep', bigSep_sep', bigSep_sep', bigSep_sep', whole_tokens (ℓ := xLoc0 d),
    whole_pieces (ℓ := iLoc0 d) (fun p => iSet (pairL p)) iSet_disjoint iSet_cover,
    whole_pieces (ℓ := oLoc0 d) (fun p => oSet (pairL p)) oSet_disjoint oSet_cover f,
    whole_pieces (ℓ := oLoc0 d) (fun p => oSet (pairL p)) oSet_disjoint oSet_cover (gathered (t₀ d) (x₀ d))]
  iintro ⟨⟨Hk, Hx⟩, Hi, Ho⟩
  isplitl [Hx Hi Ho]
  · isplitl [Hx]; · iexact Hx
    isplitl [Hi]; · iexact Hi
    iapply (pieces_ex (ℓ := oLoc0 d) (fun p => oSet (pairL p)) f) $$ Ho
  iintro ⟨Hx, Hi, Ho⟩
  isplitl [Hk Hx]
  · isplitl [Hk] <;> iassumption
  isplitl [Hi] <;> iassumption

theorem defs₀_vector1 (c : Fin τ.nSC) (s : Fin τ.nSub) :
    defs₀ (F := F) (.scVector c s) 1 ()
      = SparseCore.onTile hcore1 hsub1 (fun c s => cc1_kern (coordsV c s)
            (Memref.whole main_arg1_scv) (Memref.isWhole_whole _) (Memref.whole main_v6_scv) (Memref.isWhole_whole _)
            (Memref.whole main_v7_scv) (Memref.isWhole_whole _) (Memref.whole cc1_scoped0) (Memref.isWhole_whole _) cc1_scoped1
            (Memref.whole cc1_scoped2) (Memref.isWhole_whole _) cc1_scoped3 cc1_scoped4) ⟨⟩ c s := rfl

set_option maxRecDepth 16384 in
/-- Every tile of call 1 does its task. -/
theorem tileObl1 (hix : ∀ d y, (x₁ d y : BitVec 32).toNat < 10000) : (K (F := F)).TileObl (D (F := F)) 𝒱 (P t₀ t₁ x₀ x₁) v₀ 1 := by
  intro d c i O W hO _ _
  simp only [show (P t₀ t₁ x₀ x₁).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_task1 (t₁ d) (x₁ d) (hix d) d (coordsV ⟨_, hci.1⟩ ⟨_, hci.2⟩) O W hO).trans (wp_mono frame _ _ fun _ => obl_post)

theorem vecSplit1 : (K (F := F)).VecSplit' (P t₀ t₁ x₀ x₁) 1 := by
  intro d c
  show (bigSep Finset.univ fun i : Fin 16 => GO1 (t₁ d) (x₁ d) d (pairL (c, i))) ⊢ |={Set.univ}=> iprop(
      (bigSep Finset.univ fun i : Fin 16 => GO1 (t₁ d) (x₁ d) d (pairL (c, i)))
      ∗ ((bigSep Finset.univ fun i : Fin 16 => TD1 (t₁ d) (x₁ d) d (pairL (c, i)))
          -∗ bigSep Finset.univ fun i : Fin 16 => TD1 (t₁ d) (x₁ d) d (pairL (c, i))))
  iintro H; imodintro
  isplitl [H]; · iexact H
  iintro H; iexact H

/-- What call 1 takes is the table, the index table and the output whole, but for a share of the table the TensorCore keeps;
    what it brings back is the same with the output at the gathered rows. -/
theorem call_split1 (d : Dev nD) (f : S2560x128.Idx → Elt F .f32) :
    iprop((xLoc1 d ↦{fullShare} t₁ d) ∗ (iLoc1 d ↦{fullShare} x₁ d) ∗ oLoc1 d ↦{fullShare} f)
      ⊢ (iprop((bigSep Finset.univ fun c : Fin ((K (F := F)).nCore 1) => (P t₀ t₁ x₀ x₁).st 1 d c)
          ∗ ((bigSep Finset.univ fun c : Fin ((K (F := F)).nCore 1) => (P t₀ t₁ x₀ x₁).dn 1 d c)
            -∗ (xLoc1 d ↦{fullShare} t₁ d) ∗ (iLoc1 d ↦{fullShare} x₁ d) ∗ oLoc1 d ↦{fullShare} gathered (t₁ d) (x₁ d))) : sProp 𝕄) := by
  rw [show (bigSep Finset.univ fun c : Fin ((K (F := F)).nCore 1) => (P t₀ t₁ x₀ x₁).st 1 d c)
      = bigSep Finset.univ fun p : Fin 2 × Fin 16 => GO1 (t₁ d) (x₁ d) d (pairL p) from
        (bigSep_univ_prod (fun p : Fin 2 × Fin 16 => GO1 (t₁ d) (x₁ d) d (pairL p))).symm,
    show (bigSep Finset.univ fun c : Fin ((K (F := F)).nCore 1) => (P t₀ t₁ x₀ x₁).dn 1 d c)
      = bigSep Finset.univ fun p : Fin 2 × Fin 16 => TD1 (t₁ d) (x₁ d) d (pairL p) from
        (bigSep_univ_prod (fun p : Fin 2 × Fin 16 => TD1 (t₁ d) (x₁ d) d (pairL p))).symm,
    bigSep_sep', bigSep_sep', bigSep_sep', bigSep_sep', whole_tokens (ℓ := xLoc1 d),
    whole_pieces (ℓ := iLoc1 d) (fun p => iSet (pairL p)) iSet_disjoint iSet_cover,
    whole_pieces (ℓ := oLoc1 d) (fun p => oSet (pairL p)) oSet_disjoint oSet_cover f,
    whole_pieces (ℓ := oLoc1 d) (fun p => oSet (pairL p)) oSet_disjoint oSet_cover (gathered (t₁ d) (x₁ d))]
  iintro ⟨⟨Hk, Hx⟩, Hi, Ho⟩
  isplitl [Hx Hi Ho]
  · isplitl [Hx]; · iexact Hx
    isplitl [Hi]; · iexact Hi
    iapply (pieces_ex (ℓ := oLoc1 d) (fun p => oSet (pairL p)) f) $$ Ho
  iintro ⟨Hx, Hi, Ho⟩
  isplitl [Hk Hx]
  · isplitl [Hk] <;> iassumption
  isplitl [Hi] <;> iassumption

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P t₀ t₁ x₀ x₁).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 2 => (P t₀ t₁ x₀ x₁).x q thr) = bigSep Finset.univ fun _ => iprop(emp) from
    bigSep_congr fun _ _ => bigSep_none _, bigSep_none]
  iempintro

end Launch

end Cert.Proof.GatherTile

end
-- ==== Proof.GatherRun.lean ====
module

public import proofs.«01_k».proof.Proof.GatherLaunch

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (after seq launchContents held)

variable {F : FTy → Type}

local notation "𝕄" => MT nD τ sig (HIx 2) (Elt F) ℕ UU ℕ

/-! ## The TensorCore's arrays as one valuation -/

/-- A reference of the TensorCore among the device's. -/
abbrev dr (b : Ref sig .tc) : DevRef τ sig := Proc.devRef .tc b
/-- The arrays that are no kernel's scratch. -/
def arrs : Finset (DevRef τ sig) :=
  (Finset.univ.filter fun b : Ref sig .tc => ¬ b.isScoped).map ⟨Proc.devRef (τ := τ) .tc, Proc.devRef_injective .tc⟩

theorem mem_arrs {b : Ref sig .tc} (h : b.isScoped = false) : dr b ∈ arrs :=
  Finset.mem_map.mpr ⟨b, Finset.mem_filter.mpr ⟨Finset.mem_univ _, by rw [h]; exact Bool.false_ne_true⟩, rfl⟩

theorem unscoped_held (d : Dev nD) (V : Valuation τ sig (Elt F)) :
    (unscopedBufs d (fun b => V (dr b)) : sProp 𝕄) = held (SparseCore.T d) arrs V := by
  unfold unscopedBufs StableHlo.held arrs
  rw [bigSep_map]; rfl

/-- Three arrays out of the whole. -/
theorem held_three (d : Dev nD) (V : Valuation τ sig (Elt F)) (a b c : Ref sig .tc) (ha : a.isScoped = false) (hb : b.isScoped = false)
    (hc : c.isScoped = false) (hab : a ≠ b) (hac : a ≠ c) (hbc : b ≠ c) :
    (held (SparseCore.T d) arrs V : sProp 𝕄)
      = iprop(((SparseCore.T d).loc a ↦{fullShare} V (dr a)) ∗ ((SparseCore.T d).loc b ↦{fullShare} V (dr b)) ∗ ((SparseCore.T d).loc c ↦{fullShare} V (dr c))
          ∗ held (SparseCore.T d) (((arrs.erase (dr a)).erase (dr b)).erase (dr c)) V) := by
  have n {x y : Ref sig .tc} (h : x ≠ y) : dr y ≠ dr x := fun e => h (Proc.devRef_injective .tc e).symm
  unfold StableHlo.held
  rw [SparseCore.bigSep_erase' (mem_arrs ha), SparseCore.bigSep_erase' (Finset.mem_erase.mpr ⟨n hab, mem_arrs hb⟩),
    SparseCore.bigSep_erase' (Finset.mem_erase.mpr ⟨n hbc, Finset.mem_erase.mpr ⟨n hac, mem_arrs hc⟩⟩)]

/-- Three arrays back in, the third at new contents. -/
theorem held_put (d : Dev nD) (V : Valuation τ sig (Elt F)) (a b c : Ref sig .tc) (ha : a.isScoped = false) (hb : b.isScoped = false)
    (hc : c.isScoped = false) (hab : a ≠ b) (hac : a ≠ c) (hbc : b ≠ c) (g : (dr c).ty.Contents (Elt F)) :
    (held (SparseCore.T d) arrs (Function.update V (dr c) g) : sProp 𝕄)
      = iprop(((SparseCore.T d).loc a ↦{fullShare} V (dr a)) ∗ ((SparseCore.T d).loc b ↦{fullShare} V (dr b)) ∗ ((SparseCore.T d).loc c ↦{fullShare} g)
          ∗ held (SparseCore.T d) (((arrs.erase (dr a)).erase (dr b)).erase (dr c)) V) := by
  have n {x y : Ref sig .tc} (h : x ≠ y) : dr x ≠ dr y := fun e => h (Proc.devRef_injective .tc e)
  rw [held_three d (Function.update V (dr c) g) a b c ha hb hc hab hac hbc, Function.update_of_ne (n hac), Function.update_of_ne (n hbc), Function.update_self,
    StableHlo.held_congr (SparseCore.T d) (S := ((arrs.erase (dr a)).erase (dr b)).erase (dr c)) (V := Function.update V (dr c) g) (V' := V)
      fun r hr => Function.update_of_ne (Finset.ne_of_mem_erase hr) _ _]

variable [FloatOps F]

/-- Call 0 over the arrays held whole: it takes the table, the index table and the output, and brings them back with the
    output at the gathered rows. -/
theorem held_call0 (t₀ t₁ : Dev nD → S10000x128.Idx → Elt F .f32) (x₀ x₁ : Dev nD → S32x80.Idx → Elt F .i32) (d : Dev nD) (V : Valuation τ sig (Elt F))
    (ht : t₀ d = V (dr main_arg0)) (hx : x₀ d = V (dr main_v2)) :
    (held (SparseCore.T d) arrs V : sProp 𝕄)
      ⊢ iprop((bigSep Finset.univ fun c : Fin ((K (F := F)).nCore 0) => (P t₀ t₁ x₀ x₁).st 0 d c)
          ∗ ((bigSep Finset.univ fun c : Fin ((K (F := F)).nCore 0) => (P t₀ t₁ x₀ x₁).dn 0 d c)
            -∗ held (SparseCore.T d) arrs (Function.update V (dr main_v3) (gathered (t₀ d) (x₀ d))))) := by
  rw [held_three d V main_arg0 main_v2 main_v3 rfl rfl rfl (by decide) (by decide) (by decide),
    held_put d V main_arg0 main_v2 main_v3 rfl rfl rfl (by decide) (by decide) (by decide)]
  iintro ⟨Hx, Hi, Ho, Hrest⟩
  ihave H := (call_split0 t₀ t₁ x₀ x₁ d (V (dr main_v3))) $$ [Hx Hi Ho]
  · rw [ht, hx]
    isplitl [Hx]; · iexact Hx
    isplitl [Hi] <;> iassumption
  icases H with ⟨Hst, Hback⟩
  isplitl [Hst]; · iexact Hst
  iintro Hdn
  ihave H := Hback $$ Hdn
  icases H with ⟨Hx, Hi, Ho⟩
  rw [← ht, ← hx]
  isplitl [Hx]; · iexact Hx
  isplitl [Hi]; · iexact Hi
  isplitl [Ho]; · iexact Ho
  iexact Hrest

/-- Call 1 over the arrays held whole: it takes the table, the index table and the output, and brings them back with the
    output at the gathered rows. -/
theorem held_call1 (t₀ t₁ : Dev nD → S10000x128.Idx → Elt F .f32) (x₀ x₁ : Dev nD → S32x80.Idx → Elt F .i32) (d : Dev nD) (V : Valuation τ sig (Elt F))
    (ht : t₁ d = V (dr main_arg1)) (hx : x₁ d = V (dr main_v6)) :
    (held (SparseCore.T d) arrs V : sProp 𝕄)
      ⊢ iprop((bigSep Finset.univ fun c : Fin ((K (F := F)).nCore 1) => (P t₀ t₁ x₀ x₁).st 1 d c)
          ∗ ((bigSep Finset.univ fun c : Fin ((K (F := F)).nCore 1) => (P t₀ t₁ x₀ x₁).dn 1 d c)
            -∗ held (SparseCore.T d) arrs (Function.update V (dr main_v7) (gathered (t₁ d) (x₁ d))))) := by
  rw [held_three d V main_arg1 main_v6 main_v7 rfl rfl rfl (by decide) (by decide) (by decide),
    held_put d V main_arg1 main_v6 main_v7 rfl rfl rfl (by decide) (by decide) (by decide)]
  iintro ⟨Hx, Hi, Ho, Hrest⟩
  ihave H := (call_split1 t₀ t₁ x₀ x₁ d (V (dr main_v7))) $$ [Hx Hi Ho]
  · rw [ht, hx]
    isplitl [Hx]; · iexact Hx
    isplitl [Hi] <;> iassumption
  icases H with ⟨Hst, Hback⟩
  isplitl [Hst]; · iexact Hst
  iintro Hdn
  ihave H := Hback $$ Hdn
  icases H with ⟨Hx, Hi, Ho⟩
  rw [← ht, ← hx]
  isplitl [Hx]; · iexact Hx
  isplitl [Hi]; · iexact Hi
  isplitl [Ho]; · iexact Ho
  iexact Hrest

/-! ## @main's lines -/

/-- Before call 0, between the calls, after call 1. -/
abbrev opsA : List (HloOp τ sig (Elt F)) :=
  [StableHlo.unary main_arg2 main_v0 ((extractStridedSlice S1x2560x1 ![0, 0, 0] · slices_S2x2560x1_S1x2560x1_0_0_0) : (⟨S2x2560x1, .i32⟩ : BufTy).Contents (Elt F) → (⟨S1x2560x1, .i32⟩ : BufTy).Contents (Elt F)),
   StableHlo.reshape main_v0 main_v1 (rfl : (.i32 : EltTy) = .i32) shapeCasts_S1x2560x1_S2560x1,
   StableHlo.reshape main_v1 main_v2 (rfl : (.i32 : EltTy) = .i32) shapeCasts_S2560x1_S32x80]
abbrev opsB : List (HloOp τ sig (Elt F)) :=
  [StableHlo.unary main_arg2 main_v4 ((extractStridedSlice S1x2560x1 ![1, 0, 0] · slices_S2x2560x1_S1x2560x1_1_0_0) : (⟨S2x2560x1, .i32⟩ : BufTy).Contents (Elt F) → (⟨S1x2560x1, .i32⟩ : BufTy).Contents (Elt F)),
   StableHlo.reshape main_v4 main_v5 (rfl : (.i32 : EltTy) = .i32) shapeCasts_S1x2560x1_S2560x1,
   StableHlo.reshape main_v5 main_v6 (rfl : (.i32 : EltTy) = .i32) shapeCasts_S2560x1_S32x80]
abbrev opsC : List (HloOp τ sig (Elt F)) :=
  [StableHlo.unary main_v3 main_v8 ((extractStridedSlice S2500x128 ![0, 0] · slices_S2560x128_S2500x128_0_0) : (⟨S2560x128, .f32⟩ : BufTy).Contents (Elt F) → (⟨S2500x128, .f32⟩ : BufTy).Contents (Elt F)),
   StableHlo.unary main_v7 main_v9 ((extractStridedSlice S2500x128 ![0, 0] · slices_S2560x128_S2500x128_0_0) : (⟨S2560x128, .f32⟩ : BufTy).Contents (Elt F) → (⟨S2500x128, .f32⟩ : BufTy).Contents (Elt F))]

theorem main_lines (d : Dev nD) :
    main (F := F) d = (seq opsA >>= fun _ => (K (F := F)).run d 0 >>= fun _ => seq opsB >>= fun _ => (K (F := F)).run d 1 >>= fun _ => seq opsC >>= fun u => pure u) := by
  simp only [main, seq, bind_assoc, pure_bind]

theorem two_sub {b b' : Ref sig .tc} (h : b.isScoped = false) (h' : b'.isScoped = false) : ({dr b, dr b'} : Finset (DevRef τ sig)) ⊆ arrs :=
  Finset.insert_subset (mem_arrs h) (Finset.singleton_subset_iff.mpr (mem_arrs h'))

theorem subA : ∀ op ∈ opsA (F := F), op.bufs ⊆ arrs := by
  intro op h
  rcases List.mem_cons.mp h with rfl | h; · exact two_sub (b := main_arg2) (b' := main_v0) rfl rfl
  rcases List.mem_cons.mp h with rfl | h; · exact two_sub (b := main_v0) (b' := main_v1) rfl rfl
  rcases List.mem_cons.mp h with rfl | h; · exact two_sub (b := main_v1) (b' := main_v2) rfl rfl
  cases h
theorem subB : ∀ op ∈ opsB (F := F), op.bufs ⊆ arrs := by
  intro op h
  rcases List.mem_cons.mp h with rfl | h; · exact two_sub (b := main_arg2) (b' := main_v4) rfl rfl
  rcases List.mem_cons.mp h with rfl | h; · exact two_sub (b := main_v4) (b' := main_v5) rfl rfl
  rcases List.mem_cons.mp h with rfl | h; · exact two_sub (b := main_v5) (b' := main_v6) rfl rfl
  cases h
theorem subC : ∀ op ∈ opsC (F := F), op.bufs ⊆ arrs := by
  intro op h
  rcases List.mem_cons.mp h with rfl | h; · exact two_sub (b := main_v3) (b' := main_v8) rfl rfl
  rcases List.mem_cons.mp h with rfl | h; · exact two_sub (b := main_v7) (b' := main_v9) rfl rfl
  cases h
theorem freshA : ∀ op ∈ opsA (F := F), op.fresh = ∅ := by
  intro op h
  rcases List.mem_cons.mp h with rfl | h; · rfl
  rcases List.mem_cons.mp h with rfl | h; · rfl
  rcases List.mem_cons.mp h with rfl | h; · rfl
  cases h
theorem freshB : ∀ op ∈ opsB (F := F), op.fresh = ∅ := by
  intro op h
  rcases List.mem_cons.mp h with rfl | h; · rfl
  rcases List.mem_cons.mp h with rfl | h; · rfl
  rcases List.mem_cons.mp h with rfl | h; · rfl
  cases h
theorem freshC : ∀ op ∈ opsC (F := F), op.fresh = ∅ := by
  intro op h
  rcases List.mem_cons.mp h with rfl | h; · rfl
  rcases List.mem_cons.mp h with rfl | h; · rfl
  cases h

section Run

variable (m : (ℓ : Loc nD τ sig) → Buf (Elt F) ℓ) (ρ : Dev nD → PrngReg)

/-- The arrays at each call, after it, and at the end. -/
def Va (d : Dev nD) : Valuation τ sig (Elt F) := after opsA (launchContents m d)
def tb₀ (d : Dev nD) : S10000x128.Idx → Elt F .f32 := Va m d (dr main_arg0)
def ix₀ (d : Dev nD) : S32x80.Idx → Elt F .i32 := Va m d (dr main_v2)
def Vb (d : Dev nD) : Valuation τ sig (Elt F) := after opsB (Function.update (Va m d) (dr main_v3) (gathered (tb₀ m d) (ix₀ m d)))
def tb₁ (d : Dev nD) : S10000x128.Idx → Elt F .f32 := Vb m d (dr main_arg1)
def ix₁ (d : Dev nD) : S32x80.Idx → Elt F .i32 := Vb m d (dr main_v6)
def Vc (d : Dev nD) : Valuation τ sig (Elt F) := after opsC (Function.update (Vb m d) (dr main_v7) (gathered (tb₁ m d) (ix₁ m d)))

abbrev PP : (K (F := F)).Pay (nD := nD) (Val := Elt F) (Name := ℕ) (U := UU) := P (tb₀ m) (tb₁ m) (ix₀ m) (ix₁ m)
abbrev FIN (d : Dev nD) : sProp 𝕄 := held (SparseCore.T d) arrs (Vc m d)

/-- @main on device `d`'s TensorCore: the lines and the two calls, over the arrays held whole. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrs (launchContents m d) from unscoped_held d (launchContents m d),
    main_lines]
  iintro ⟨#Hctx, Hst, ⟨Hb, Hheld, Hts, -⟩, -⟩
  iapply (StableHlo.wp_seq 𝒱 none Set.univ d arrs _ opsA subA freshA (launchContents m d)) $$ [Hb Hheld]
  · isplitl [Hb]; · iexact Hb
    iexact Hheld
  iintro ⟨Hb, Hheld⟩
  ihave H := (show (held (d.tc : Thread nD τ) arrs (after opsA (launchContents m d)) : sProp 𝕄) ⊢ _ from held_call0 (tb₀ m) (tb₁ m) (ix₀ m) (ix₁ m) d (Va m d) rfl rfl) $$ Hheld
  icases H with ⟨Hpay, Hback⟩
  rw [wp_bind]
  iapply ((K (F := F)).wp_run (D (F := F)) 𝒱 (EH := EH) (P := PP m) κ d 0) $$ [Hst Hpay Hback Hb Hts]
  isplitr; · iexact Hctx
  isplitl [Hst]; · iexact Hst
  isplitl [Hpay]; · iexact Hpay
  iintro ⟨Hst, Hdn⟩
  ihave Hheld := Hback $$ Hdn
  iapply (StableHlo.wp_seq 𝒱 none Set.univ d arrs _ opsB subB freshB _) $$ [Hb Hheld]
  · isplitl [Hb]; · iexact Hb
    iexact Hheld
  iintro ⟨Hb, Hheld⟩
  ihave H := (show (held (d.tc : Thread nD τ) arrs (after opsB (Function.update (Va m d) (dr main_v3) (gathered (tb₀ m d) (ix₀ m d)))) : sProp 𝕄) ⊢ _ from
    held_call1 (tb₀ m) (tb₁ m) (ix₀ m) (ix₁ m) d (Vb m d) rfl rfl) $$ Hheld
  icases H with ⟨Hpay, Hback⟩
  rw [wp_bind]
  iapply ((K (F := F)).wp_run (D (F := F)) 𝒱 (EH := EH) (P := PP m) κ d 1) $$ [Hst Hpay Hback Hb Hts]
  isplitr; · iexact Hctx
  isplitl [Hst]; · iexact Hst
  isplitl [Hpay]; · iexact Hpay
  iintro ⟨Hst, Hdn⟩
  ihave Hheld := Hback $$ Hdn
  iapply (StableHlo.wp_seq 𝒱 none Set.univ d arrs _ opsC subC freshC _) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What the claims read of device `d`'s final state: every array of the TensorCore at the last valuation. -/
def fq (d : Dev nD) (s' : Phys nD τ sig (Elt F)) : Prop := ∀ b : Ref sig .tc, b.isScoped = false → s'.mem.mem ((SparseCore.T d).loc b) = Vc m d (dr b)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) arrs) $$ [HSI H]
  · isplitl [HSI]; · iexact HSI
    iexact H
  ipureintro
  exact fun b hb => h _ (mem_arrs hb)

def QC : PUnit × MemSt nD τ sig (Elt F) → Prop := fun r =>
  (∀ (c : Dev nD) (b : Ref sig .tc), b.isScoped = false → r.2.mem ((SparseCore.T c).loc b) = Vc m c (dr b)) ∧ r.2.sem = fun _ => 0

/-- The run, when every word of both index tables names a row. -/
theorem run_main [∀ e, Nonempty (Elt F e)] (h₀ : ∀ d y, (ix₀ m d y : BitVec 32).toNat < 10000) (h₁ : ∀ d y, (ix₁ m d y : BitVec 32).toNat < 10000) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 _ _ _ _ h₀ | 1 => tileObl1 _ _ _ _ h₁)
    (fun q _ => match q with | 0 => SparseCore.Cfg.VecSplit.of_plain (vecSplit0 _ _ _ _) | 1 => SparseCore.Cfg.VecSplit.of_plain (vecSplit1 _ _ _ _))
    m ρ main (fun _ => iprop(emp)) (FIN m) (u₀ (F := F)) (sep_elim_left.trans (hu₀ _ _ _ _)) (hmain m ρ) (fq m) (hfin m) (QC m) (fun _ h hz => ⟨h, hz⟩)

end Run

end Cert.Proof.GatherTile

end
-- ==== Proof.GatherValue.lean ====
module

public import proofs.«01_k».proof.Proof.GatherRun
public import proofs.«01_k».proof.Proof.Gen.Pre_idx_in_rows
public import Idealize.ShloMosaic.Lib.Pointwise
public import Idealize.ShloMosaic.Lib.ReduceAll
public import Idealize.ShloMosaic.Lib.Affine

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (after launchContents)

variable {F : FTy → Type} [FloatOps F]
variable (m : (ℓ : Loc nD τ sig) → Buf (Elt F) ℓ)

/-! ## The arrays read back -/

/-- The index array on device `d`. -/
abbrev idxA (d : Dev nD) : S2x2560x1.Idx → BitVec 32 := m ((SparseCore.T d).loc main_arg2)

/-- The host's slice and reshapes: word `(i, j)` of an index table is word `80 i + j` of its half of the index array. -/
def words (x : S2x2560x1.Idx → BitVec 32) (q : Fin 2) (y : S32x80.Idx) : BitVec 32 :=
  x (ix3 q ⟨(y 0).val * 80 + (y 1).val, by have : (y 0).val < 32 := (y 0).isLt; have : (y 1).val < 80 := (y 1).isLt; omega⟩ 0)

theorem Va_arg0 (d : Dev nD) : tb₀ m d = m ((SparseCore.T d).loc main_arg0) := by
  unfold tb₀ Va; after_results
theorem Va_v2 (d : Dev nD) : ix₀ m d = words (idxA m d) 0 := by
  unfold ix₀ Va
  after_results
  funext y
  pointwise
  rfl
theorem Vb_arg1 (d : Dev nD) : tb₁ m d = m ((SparseCore.T d).loc main_arg1) := by
  unfold tb₁ Vb
  after_results
  rw [Function.update_of_ne (by decide)]
  unfold Va; after_results
theorem Vb_v6 (d : Dev nD) : ix₁ m d = words (idxA m d) 1 := by
  unfold ix₁ Vb
  after_results
  rw [Function.update_of_ne (by decide)]
  unfold Va; after_results
  funext y
  pointwise
  rfl
/-- The rows of one result. -/
def rows (tab : S10000x128.Idx → Elt F .f32) (x : S2x2560x1.Idx → BitVec 32) (q : Fin 2) (y : S2500x128.Idx) : Elt F .f32 :=
  rowOf tab (x (ix3 q ⟨(y 0).val, by have : (y 0).val < 2500 := (y 0).isLt; omega⟩ 0)) (y 1)

theorem rows_of (tab : S10000x128.Idx → Elt F .f32) (x : S2x2560x1.Idx → BitVec 32) (q : Fin 2) :
    extractStridedSlice S2500x128 ![0, 0] (gathered tab (words x q)) slices_S2560x128_S2500x128_0_0 = rows tab x q := by
  funext y
  unfold gathered words rows
  pointwise
  congr 4
  exact Nat.div_add_mod' _ _
theorem Vc_arg0 (d : Dev nD) : Vc m d (dr main_arg0) = m ((SparseCore.T d).loc main_arg0) := by
  unfold Vc; after_results
  rw [Function.update_of_ne (by decide)]
  unfold Vb; after_results
  rw [Function.update_of_ne (by decide)]
  exact Va_arg0 m d
theorem Vc_arg1 (d : Dev nD) : Vc m d (dr main_arg1) = m ((SparseCore.T d).loc main_arg1) := by
  unfold Vc; after_results
  rw [Function.update_of_ne (by decide)]
  exact Vb_arg1 m d
theorem Vc_arg2 (d : Dev nD) : Vc m d (dr main_arg2) = m ((SparseCore.T d).loc main_arg2) := by
  unfold Vc; after_results
  rw [Function.update_of_ne (by decide)]
  unfold Vb; after_results
  rw [Function.update_of_ne (by decide)]
  unfold Va; after_results
theorem Vc_v8 (d : Dev nD) : Vc m d (dr main_v8) = rows (m ((SparseCore.T d).loc main_arg0)) (idxA m d) 0 := by
  unfold Vc; after_results
  rw [Function.update_of_ne (by decide)]
  unfold Vb; after_results
  rw [Function.update_self, Va_arg0, Va_v2]
  exact rows_of _ _ _
theorem Vc_v9 (d : Dev nD) : Vc m d (dr main_v9) = rows (m ((SparseCore.T d).loc main_arg1)) (idxA m d) 1 := by
  unfold Vc; after_results
  rw [Function.update_self, Vb_arg1, Vb_v6]
  exact rows_of _ _ _

/-! ## The precondition -/

/-- Words that are all rows, as jax computes it. -/
theorem lt_of_fn (a b : S10000x128.Idx → Elt F .f32) (x : S2x2560x1.Idx → BitVec 32)
    (h : Pre_idx_in_rows.fn (F := F) a b x = fun _ => 1#1) (i : S2x2560x1.Idx) : (x i).toNat < 10000 := by
  have h0 := congrFun h ix0
  dsimp only [Pre_idx_in_rows.fn] at h0
  have e := Host.reduce_andi_all _ _ _ _ _ h0 i
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [andi, cmpi, broadcastInDim, constantI, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.GatherTile

end
-- ==== Proof.GatherRows.lean ====
module

public import proofs.«01_k».proof.Proof.GatherValue
public import proofs.«01_k».proof.Proof.Gen.RowsIdeal.Run
public import Idealize.ShloMosaic.Lib.Routing.Ops

@[expose] public section

noncomputable section

namespace Cert.Proof.GatherRows

open Cert.RowsIdeal Cert.RowsIdeal.Gen Idealize.ShloMosaic

variable {F : FTy → Type}

/-! ## jax's indexing of a table by a list of words that are rows -/

/-- The start index jax computes of a word: a negative one counts from the end. -/
abbrev start (v : IVec S2500 32) : IVec S2500x1 32 :=
  broadcastInDim S2500x1 ![0] bcast_S2500_S2500x1_0 (select (cmpi .slt v (broadcastInDim S2500 ![] bcast_S_S2500 (constantI S_ 32 0#32)))
    (addi v (broadcastInDim S2500 ![] bcast_S_S2500 (constantI S_ 32 10000#32))) v)

/-- Of a word that is a row it is the word. -/
theorem start_eq (v : IVec S2500 32) (i : Fin 2500) (h : (v (ix1 i)).toNat < 10000) : start v (ix2 i 0) = v (ix1 i) := by
  unfold start
  pointwise
  have hn : (v (ix1 i)).slt 0#32 = false := by
    rw [BitVec.slt_eq_decide, BitVec.toInt_eq_toNat_cond]; simp; omega
  unfold Scalar.select IntOp.cmpi
  simp only [hn]
  rfl

theorem rows_eq {α : Type} (tab : S10000x128.Idx → α) (v : IVec S2500 32) (h : ∀ i : Fin 2500, (v (ix1 i)).toNat < 10000) (y : S2500x128.Idx) :
    Host.gather gather_S10000x128_S2500x1_S2500x128_1_0_n_n_0_1_1128 tab (start v) y
      = tab (ix2 ⟨min (v (ix1 (y 0))).toNat 9999, by omega⟩ (y 1)) := by
  have hb : start v (ix2 (y 0) 0) = BitVec.ofNat 32 (min (v (ix1 (y 0))).toNat 9999) := by
    rw [start_eq v (y 0) (h _), Nat.min_eq_left (by have := h (y 0); omega), BitVec.ofNat_toNat, BitVec.setWidth_eq]
  have e := Routing.gather_row gather_S10000x128_S2500x1_S2500x128_1_0_n_n_0_1_1128 rfl rfl rfl rfl rfl tab (start v) (y 0) (y 1)
    ⟨min (v (ix1 (y 0))).toNat 9999, by omega⟩ hb (by decide)
  refine (congrArg _ (ValueIdx.eq_ix2 y)).trans (e.trans (congrArg tab (funext fun a => ?_)))
  match a with
  | 0 => rfl
  | 1 => rfl

/-- The list of words of either half of the index array. -/
theorem list0 (x : IVec S2x2560x1 32) (i : Fin 2500) :
    shapeCast S2500 (extractStridedSlice S1x2500x1 ![0, 0, 0] x slices_S2x2560x1_S1x2500x1_0_0_0) shapeCasts_S1x2500x1_S2500 (ix1 i)
      = x (ix3 0 ⟨i.val, by have := i.isLt; omega⟩ 0) := by
  pointwise
theorem list1 (x : IVec S2x2560x1 32) (i : Fin 2500) :
    shapeCast S2500 (extractStridedSlice S1x2500x1 ![1, 0, 0] x slices_S2x2560x1_S1x2500x1_1_0_0) shapeCasts_S1x2500x1_S2500 (ix1 i)
      = x (ix3 1 ⟨i.val, by have := i.isLt; omega⟩ 0) := by
  pointwise

theorem result0 (tab : S10000x128.Idx → Elt F .f32) (x : IVec S2x2560x1 32) (hx : ∀ i, (x i).toNat < 10000) :
    Host.gather gather_S10000x128_S2500x1_S2500x128_1_0_n_n_0_1_1128 tab
        (start (shapeCast S2500 (extractStridedSlice S1x2500x1 ![0, 0, 0] x slices_S2x2560x1_S1x2500x1_0_0_0) shapeCasts_S1x2500x1_S2500))
      = GatherTile.rows tab x 0 := by
  funext y
  rw [rows_eq tab _ (fun i => by rw [list0]; exact hx _) y]
  unfold GatherTile.rows GatherTile.rowOf
  congr 3
  exact congrArg (fun w : BitVec 32 => min w.toNat 9999) (list0 x (y 0))
theorem result1 (tab : S10000x128.Idx → Elt F .f32) (x : IVec S2x2560x1 32) (hx : ∀ i, (x i).toNat < 10000) :
    Host.gather gather_S10000x128_S2500x1_S2500x128_1_0_n_n_0_1_1128 tab
        (start (shapeCast S2500 (extractStridedSlice S1x2500x1 ![1, 0, 0] x slices_S2x2560x1_S1x2500x1_1_0_0) shapeCasts_S1x2500x1_S2500))
      = GatherTile.rows tab x 1 := by
  funext y
  rw [rows_eq tab _ (fun i => by rw [list1]; exact hx _) y]
  unfold GatherTile.rows GatherTile.rowOf
  congr 3
  exact congrArg (fun w : BitVec 32 => min w.toNat 9999) (list1 x (y 0))

end Cert.Proof.GatherRows

end
-- ==== Proof.KernelTile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The two calls are one kernel -/

set_option maxRecDepth 65536 in
theorem cc2_eq_cc1 [FloatOps F] : cc2_kern (F := F) = cc1_kern (F := F) := rfl

theorem cond1 (L : grid1.Coords) : k1_cond1 L ≠ 1#1 := by revert L; decide +kernel
theorem cond2 (L : grid1.Coords) : k1_cond2 L = 1#1 := by revert L; decide +kernel
theorem cond5 (L : grid1.Coords) : k1_cond5 L = 1#1 := by revert L; decide +kernel
theorem cond7 (L : grid1.Coords) : k1_cond7 L ≠ 1#1 := by revert L; decide +kernel

/-! ## The body, normalised: the conditionals decided, the offsets in closed form -/

abbrev ΛP : Labels := Pipeline.Sig Λ₀ (Fin 1) fun p => (pcfgs (F := F) p).Adm
abbrev K : SparseCore.Cfg τ sig (ΛP (F := F)) 2 := sc (F := F)
abbrev 𝒱₀ : Variants := Variants.none

abbrev UH : Type := URounds (GSem nD τ sig) ℕ
abbrev UK : Type := URounds (GSem nD τ sig) Unit
abbrev UU : Type := UH × (UK × Counters)

local notation "𝕄" => MT nD τ sig (HIx 2) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

variable (xM : Memref sig .scVector .hbm S10000x128 .f32) (hx : xM.IsWhole)
  (iM : Memref sig .scVector .hbm S32x80 .i32) (hi : iM.IsWhole)
  (oM : Memref sig .scVector .hbm S2560x128 .f32) (ho : oM.IsWhole)
  (sM : Memref sig .scVector .vmem S2x1x80 .i32) (hs : sM.IsWhole)
  (rM : Memref sig .scVector .vmem S2x80x128 .f32) (hr : rM.IsWhole)
  (semI : DmaSems sig S2) (semO : DmaSems sig S2) (semG : DmaSems sig S_)

variable [FloatOps F]

/-- Row `w` of a table of ten thousand rows, at lane `c`; a word past the last row names the last. -/
def rowOf (tab : S10000x128.Idx → Elt F .f32) (w : BitVec 32) (c : Fin 128) : Elt F .f32 :=
  tab (ix2 ⟨min w.toNat 9999, by omega⟩ c)

/-- Row `16 c + s` of the index table, as the task on tile `(c, s)` names it. -/
abbrev iRow : Memref sig .scVector .hbm S1x80 .i32 :=
  iM.slice (Rect.unit (s := S32x80) (k1_off2 L) S1x80.size (k1_off2_inb L)) (fun _ => rfl)
/-- Its block of eighty rows of the output. -/
abbrev oBlk : Memref sig .scVector .hbm S80x128 .f32 :=
  oM.slice (Rect.unit (s := S2560x128) (k1_off18 L) S80x128.size (k1_off18_inb L)) (fun _ => rfl)

/-- Slot zero of the index scratch. -/
abbrev sSlot : Memref sig .scVector .vmem S1x80 .i32 :=
  (sM.slice (Rect.unit (s := S2x1x80) (k1_off1) S1x1x80.size (k1_off1_inb)) (fun _ => rfl)).squeeze S1x80 squeezes_S1x1x80_S1x80
/-- The list of eighty row numbers in it. -/
abbrev sList : Memref sig .scVector .vmem S80 .i32 :=
  ((sSlot sM).slice (Rect.unit (s := S1x80) ![0, 0] S1x80.size inb_S1x80_S1x80_0_0) (fun _ => rfl)).squeeze S80 squeezes_S1x80_S80

/-- The list's words after slot zero was filled: word `x` is the filling's own at `x`. -/
theorem sList_read (fs : Buf (Elt F) (sM.view.loc (tV d L))) (w : S1x80.Idx → Elt F .i32) (x : S80.Idx) :
    (sList sM).view.read (Elt F) ((sSlot sM).view.write (Elt F) fs w Finset.univ) x
      = w ((Rect.unit (s := S1x80) ![0, 0] S1x80.size inb_S1x80_S1x80_0_0).emb (Shape.reshapeEquiv squeezes_S1x80_S80.numel_eq x)) :=
  congrFun (View.read_write_univ (v := (sSlot sM).view) fs w) _

abbrev sem0 (v : DmaSems sig S2) : DmaSems sig S_ :=
  (v.slice (Rect.unit (s := S2) k1_off3 S1.size k1_off3_inb)).squeeze S_ squeezes_S1_S_

/-- What was written into a slot of the row scratch is what the same slot, named by an equal offset, reads. -/
theorem slot_read {off off' : Fin 3 → ℕ} (h : off' = off) (inb : ∀ a, off a + S1x80x128.size a ≤ S2x80x128.size a)
    (inb' : ∀ a, off' a + S1x80x128.size a ≤ S2x80x128.size a) (f : Buf (Elt F) (rM.view.loc (tV d L))) (w : S80x128.Idx → Elt F .f32) :
    ((rM.slice (Rect.unit (s := S2x80x128) off' S1x80x128.size inb') (fun _ => rfl)).squeeze S80x128 squeezes_S1x80x128_S80x128).view.read (Elt F)
        (((rM.slice (Rect.unit (s := S2x80x128) off S1x80x128.size inb) (fun _ => rfl)).squeeze S80x128 squeezes_S1x80x128_S80x128).view.write (Elt F) f w Finset.univ) = w := by
  subst h; exact View.read_write_univ _ _

/-- The gather's payload at `(n, c)`: the table's row that word `n` of the list names, at lane `c`. -/
theorem gather_val (hg : S10000x128.Gathers 0 S80x128) (tab : S10000x128.Idx → Elt F .f32) (w : S1x80.Idx → BitVec 32)
    (lst : S80.Idx → Elt F .i32)
    (hl : ∀ x, lst x = w ((Rect.unit (s := S1x80) ![0, 0] S1x80.size inb_S1x80_S1x80_0_0).emb (Shape.reshapeEquiv squeezes_S1x80_S80.numel_eq x)))
    (hn : S80.numel = S80x128.size hg.axis') (hin : ∀ x, (lst x).toNat < S10000x128.size hg.axis)
    (hw : ∀ j, (w j).toNat < 10000) (j : S80x128.Idx) :
    SparseCore.gatherPayload hg (fun y => tab ((Rect.unit (s := S10000x128) ![0, 0] S10000x128.size inb_S10000x128_S10000x128_0_0).emb y))
      (SparseCore.rows lst hn hin) j = rowOf tab (w (ix2 0 (j 0))) (j 1) := by
  have hk : ∀ k : Fin 80, (Rect.unit (s := S1x80) ![0, 0] S1x80.size inb_S1x80_S1x80_0_0).emb
      (Shape.reshapeEquiv squeezes_S1x80_S80.numel_eq (S80.rowMajor.symm (k.cast hn.symm))) = ix2 0 k := fun k => by
    rw [Shape.reshapeEquiv_eq_of_rowMajor (y := ix2 0 k) squeezes_S1x80_S80.numel_eq (by
      rw [Shape.rowMajor_val_two, Equiv.apply_symm_apply]
      show 0 * 80 + k.val = k.val
      omega)]
    funext a
    apply Fin.ext
    rw [Rect.emb_apply]
    match a with
    | 0 => rfl
    | 1 => show 0 + 1 * k.val = k.val; omega
  have key : (Rect.unit (s := S10000x128) ![0, 0] S10000x128.size inb_S10000x128_S10000x128_0_0).emb (hg.idx (SparseCore.rows lst hn hin) j)
      = ix2 ⟨min (w (ix2 0 (j 0))).toNat 9999, by omega⟩ (j 1) := by
    funext a
    apply Fin.ext
    rw [Rect.emb_apply]
    match a with
    | 0 =>
      have h1 := congrArg Fin.val (Shape.Gathers.idx_axis hg (SparseCore.rows lst hn hin) j)
      show 0 + 1 * (hg.idx (SparseCore.rows lst hn hin) j hg.axis).val = min (w (ix2 0 (j 0))).toNat 9999
      rw [h1]
      unfold SparseCore.rows
      show 0 + 1 * (BitVec.toNat (lst (S80.rowMajor.symm (Fin.cast hn.symm (j 0))))) = _
      rw [hl]
      refine (congrArg (fun y => 0 + 1 * (w y).toNat) (hk (j 0))).trans ?_
      have := hw (ix2 0 (j 0))
      omega
    | 1 =>
      have h1 := Shape.Gathers.idx_of_ne hg (SparseCore.rows lst hn hin) j (1 : Fin 2) (by decide)
      show 0 + 1 * (hg.idx (SparseCore.rows lst hn hin) j (1 : Fin 2)).val = (j 1).val
      rw [h1]
      show 0 + 1 * (j 1).val = _
      omega
  exact congrArg tab key

theorem sem_unit (off : Fin 1 → ℕ) (h : off = ![0]) (inb : ∀ a, off a + S1.size a ≤ S2.size a) :
    ((semO.slice (Rect.unit (s := S2) off S1.size inb)).squeeze S_ squeezes_S1_S_).sem = (sem0 semO).sem := by
  subst h; rfl

theorem sem19 : ((semO.slice (Rect.unit (s := S2) (k1_off19 L) S1.size (k1_off19_inb L))).squeeze S_ squeezes_S1_S_).sem = (sem0 semO).sem :=
  sem_unit semO _ (k1_off19_eq L) _

set_option maxRecDepth 65536 in
theorem tile_body (q : PosShare TreeShare) (fx : Buf (Elt F) (xM.view.loc (tV d L))) (fi : Buf (Elt F) (iM.view.loc (tV d L)))
    (fo : Buf (Elt F) (oM.view.loc (tV d L)))
    (fs : Buf (Elt F) (sM.view.loc (tV d L))) (fr : Buf (Elt F) (rM.view.loc (tV d L)))
    (hin : ∀ j : S1x80.Idx, ((iRow L iM).view.read (Elt F) fi j).toNat < 10000)
    (O : CellTallies nD τ sig (HIx 2)) (W : Waits sig (HIx 2)) :
    iprop(Transfers.MayWaits (tV d L) (default : HIx 2) O
        ∗ (xM.view.loc (tV d L) ↦[xM.view.set]{q} fx) ∗ ((iRow L iM).view.loc (tV d L) ↦[(iRow L iM).view.set]{fullShare} fi)
        ∗ ((oBlk L oM).view.loc (tV d L) ↦[(oBlk L oM).view.set]{fullShare} fo)
        ∗ (sM.view.loc (tV d L) ↦[sM.view.set]{fullShare} fs) ∗ (rM.view.loc (tV d L) ↦[rM.view.set]{fullShare} fr)
        ∗ semVal (tV d L, .dma (sem0 semI).sem) 0 ∗ semVal (tV d L, .dma (sem0 semO).sem) 0 ∗ semVal (tV d L, .dma semG.sem) 0
        ∗ owes (tV d L) O W)
      ⊢ wp frame (wpE (defs₀ (F := F)) 𝒱₀ (tV d L) none) Set.univ
          (cc1_kern L xM hx iM hi oM ho sM hs semI rM hr semO semG)
          fun _ => (iprop((xM.view.loc (tV d L) ↦[xM.view.set]{q} fx) ∗ ((iRow L iM).view.loc (tV d L) ↦[(iRow L iM).view.set]{fullShare} fi)
            ∗ (∃ g, ⌜∀ j, (oBlk L oM).view.read (Elt F) g j
                  = rowOf (xM.view.read (Elt F) fx) ((iRow L iM).view.read (Elt F) fi (ix2 0 (j 0))) (j 1)⌝
                ∗ ((oBlk L oM).view.loc (tV d L) ↦[(oBlk L oM).view.set]{fullShare} g))
            ∗ (∃ f, sM.view.loc (tV d L) ↦[sM.view.set]{fullShare} f) ∗ (∃ f, rM.view.loc (tV d L) ↦[rM.view.set]{fullShare} f)
            ∗ semVal (tV d L, .dma (sem0 semI).sem) 0 ∗ semVal (tV d L, .dma (sem0 semO).sem) 0 ∗ semVal (tV d L, .dma semG.sem) 0
            ∗ ∃ W', ⌜∀ p ∈ W', p ∈ W ∨ p.2 = none⌝ ∗ owes (tV d L) O W') : sProp 𝕄) := by
  rw [cc1_kern_eq_skeleton]; unfold cc1_kern_skel
  have c1 := cond1 L
  have c2 := cond2 L
  have c5 := cond5 L
  have c7 := cond7 L
  have hlist : ∀ x : S80.Idx, BitVec.toNat ((sList sM).view.read (Elt F)
      ((sSlot sM).view.write (Elt F) fs ((iRow L iM).view.read (Elt F) fi) Finset.univ) x) < 10000 := fun x => by
    rw [sList_read]; exact hin _
  iintro ⟨#Hmw, Hx, Hi, Ho, Hs, Hr, HsemI, HsemO, HsemG, HO⟩
  sl_exec
  rw [sem19]
  sl_exec
  sl_step
  isplitl [Hx]; · iexact Hx
  isplitl [Hi]; · iexact Hi
  isplitl [Ho]
  · iexists _
    isplitr
    rotate_left
    · iexact Ho
    ipureintro
    intro j
    rw [← View.write_univ_eq_writes_whole, View.writes_nil, View.read_write_univ]
    unfold tile_body.sl.dma0_1
    unfold tile_body.sl.gather1
    refine (congrFun (slot_read d L rM (by rw [k1_off11_eq, k1_off10_eq]) _ _ fr _) j).trans ?_
    exact gather_val _ (xM.view.read (Elt F) fx) ((iRow L iM).view.read (Elt F) fi) _ (fun x => sList_read d L sM fs _ x) _ _ hin j
  isplitl [Hs]; · iexists _; iexact Hs
  isplitl [Hr]; · iexists _; iexact Hr
  isplitl [HsemI]; · iexact HsemI
  isplitl [HsemO]; · iexact HsemO
  isplitl [HsemG]; · iexact HsemG
  iexists _
  isplitr
  rotate_left
  · iexact HO
  ipureintro
  intro p hp
  simp only [Finset.mem_insert] at hp
  rcases hp with rfl | rfl | rfl | hp
  · exact Or.inr rfl
  · exact Or.inr rfl
  · exact Or.inr rfl
  · exact Or.inl hp

end Tile

end Cert.Proof.KernelTile

end
-- ==== Proof.KernelLaunch.lean ====
module

public import proofs.«01_k».proof.Proof.KernelTile
public import proofs.«01_k».proof.Proof.Gen.KernelIdeal.Launch

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's names -/

theorem nCore_zero : (K (F := F)).nCore 0 = 2 := rfl
theorem nCore_one : (K (F := F)).nCore 1 = 2 := rfl
theorem nSub_zero : (K (F := F)).nSub 0 = 16 := rfl
theorem nSub_one : (K (F := F)).nSub 1 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

abbrev EH : Emb UH (MT nD τ sig (HIx 2) (Elt F) ℕ UU ℕ) := embL
/-- Where the TensorCore call's staging cells live. -/
def EP : Emb UK (MT nD τ sig (HIx 2) (Elt F) ℕ UU ℕ) := (Emb.inl : Emb UK (UK × Counters)).trans embR

instance EP_landsIn : (EP : Emb UK 𝕄).LandsIn (upEmb : UEmb _ 𝕄) := by unfold EP embR; infer_instance

/-- The task's coordinates from its SparseCore and tile. -/
def coordsV (c : Fin (grid1.bound 0)) (s : Fin (grid1.bound 1)) : grid1.Coords :=
  fun | 0 => c | 1 => s | ⟨_ + 2, h⟩ => absurd h (Nat.not_lt.2 (Nat.le_add_left _ _))

/-! ## The rows of the index table and the blocks of the output, one per task -/

/-- The index table's row of task `L`, -/
abbrev iSet (L : grid1.Coords) : Finset S32x80.Idx := (Rect.unit (s := S32x80) (k1_off2 L) S1x80.size (k1_off2_inb L)).set
/-- the output's block of eighty rows. -/
abbrev oSet (L : grid1.Coords) : Finset S2560x128.Idx := (Rect.unit (s := S2560x128) (k1_off18 L) S80x128.size (k1_off18_inb L)).set
/-- The share of the table that task `L` reads. -/
abbrev tok (L : grid1.Coords) : PosShare TreeShare := Transfers.shareTokN fullShare ((L 1).val + 16 * (L 0).val)
/-- Every task's coordinates, as a pair. -/
abbrev pairL (p : Fin 2 × Fin 16) : grid1.Coords := coordsV p.1 p.2

theorem mem_iSet (L : grid1.Coords) (y : S32x80.Idx) : y ∈ iSet L ↔ (y 0).val = (L 1).val + 16 * (L 0).val := by
  unfold iSet
  rw [Rect.mem_set_unit, k1_off2_eq]
  constructor
  · intro h
    have h0 : (L 1).val + 16 * (L 0).val ≤ (y 0).val ∧ (y 0).val < (L 1).val + 16 * (L 0).val + 1 := h 0
    omega
  · intro h a
    match a with
    | 0 => show (L 1).val + 16 * (L 0).val ≤ (y 0).val ∧ (y 0).val < (L 1).val + 16 * (L 0).val + 1; omega
    | 1 => have := (y 1).isLt; exact ⟨Nat.zero_le _, by show (y 1).val < 0 + 80; have : (y 1).val < 80 := this; omega⟩

theorem mem_oSet (L : grid1.Coords) (y : S2560x128.Idx) : y ∈ oSet L ↔ (y 0).val / 80 = (L 1).val + 16 * (L 0).val := by
  unfold oSet
  rw [Rect.mem_set_unit, k1_off18_eq]
  constructor
  · intro h
    have h0 : 80 * (L 1).val + 1280 * (L 0).val ≤ (y 0).val ∧ (y 0).val < 80 * (L 1).val + 1280 * (L 0).val + 80 := h 0
    omega
  · intro h a
    match a with
    | 0 => show 80 * (L 1).val + 1280 * (L 0).val ≤ (y 0).val ∧ (y 0).val < 80 * (L 1).val + 1280 * (L 0).val + 80; omega
    | 1 => have := (y 1).isLt; exact ⟨Nat.zero_le _, by show (y 1).val < 0 + 128; have : (y 1).val < 128 := this; omega⟩

theorem pair_of (p : Fin 2 × Fin 16) : ((pairL p) 1).val + 16 * ((pairL p) 0).val = p.2.val + 16 * p.1.val := rfl

theorem pair_inj {p p' : Fin 2 × Fin 16} (h : p.2.val + 16 * p.1.val = p'.2.val + 16 * p'.1.val) : p = p' := by
  have := p.2.isLt; have := p'.2.isLt
  exact Prod.ext (Fin.ext (by omega)) (Fin.ext (by omega))

theorem iSet_disjoint : ∀ p ∈ (Finset.univ : Finset (Fin 2 × Fin 16)), ∀ p' ∈ (Finset.univ : Finset (Fin 2 × Fin 16)), p ≠ p' →
    Disjoint (iSet (pairL p)) (iSet (pairL p')) := fun p _ p' _ h =>
  Finset.disjoint_left.mpr fun y hy hy' => h (pair_inj (((mem_iSet _ y).mp hy).symm.trans ((mem_iSet _ y).mp hy')))
theorem oSet_disjoint : ∀ p ∈ (Finset.univ : Finset (Fin 2 × Fin 16)), ∀ p' ∈ (Finset.univ : Finset (Fin 2 × Fin 16)), p ≠ p' →
    Disjoint (oSet (pairL p)) (oSet (pairL p')) := fun p _ p' _ h =>
  Finset.disjoint_left.mpr fun y hy hy' => h (pair_inj (((mem_oSet _ y).mp hy).symm.trans ((mem_oSet _ y).mp hy')))
theorem iSet_cover : (Finset.univ : Finset (Fin 2 × Fin 16)).biUnion (fun p => iSet (pairL p)) = Finset.univ :=
  Finset.eq_univ_iff_forall.mpr fun y => Finset.mem_biUnion.mpr
    ⟨(⟨(y 0).val / 16, by have : (y 0).val < 32 := (y 0).isLt; omega⟩, ⟨(y 0).val % 16, by omega⟩), Finset.mem_univ _,
      (mem_iSet _ y).mpr (by rw [pair_of]; show _ = (y 0).val % 16 + 16 * ((y 0).val / 16); omega)⟩
theorem oSet_cover : (Finset.univ : Finset (Fin 2 × Fin 16)).biUnion (fun p => oSet (pairL p)) = Finset.univ :=
  Finset.eq_univ_iff_forall.mpr fun y => Finset.mem_biUnion.mpr
    ⟨(⟨(y 0).val / 80 / 16, by have : (y 0).val < 2560 := (y 0).isLt; omega⟩, ⟨(y 0).val / 80 % 16, by omega⟩), Finset.mem_univ _,
      (mem_oSet _ y).mpr (by rw [pair_of]; show _ = (y 0).val / 80 % 16 + 16 * ((y 0).val / 80 / 16); omega)⟩

/-- A buffer held whole is its pieces, one per task, when the pieces are disjoint and cover it. -/
theorem whole_pieces {ℓ : Loc nD τ sig} (R : Fin 2 × Fin 16 → Finset (Idx ℓ))
    (hd : ∀ p ∈ (Finset.univ : Finset (Fin 2 × Fin 16)), ∀ p' ∈ (Finset.univ : Finset (Fin 2 × Fin 16)), p ≠ p' → Disjoint (R p) (R p'))
    (hc : (Finset.univ : Finset (Fin 2 × Fin 16)).biUnion R = Finset.univ) (f : Buf (Elt F) ℓ) :
    (ℓ ↦{fullShare} f : sProp 𝕄) = bigSep Finset.univ fun p : Fin 2 × Fin 16 => ℓ ↦[R p]{fullShare} f := by
  rw [← pointsTo_biUnion Finset.univ R hd, hc]

/-- A buffer held whole is one read share per task, and a share kept. -/
theorem whole_tokens {ℓ : Loc nD τ sig} (f : Buf (Elt F) ℓ) :
    (ℓ ↦{fullShare} f : sProp 𝕄) = iprop((ℓ ↦{Transfers.shareDrop fullShare 32} f) ∗ bigSep Finset.univ fun p : Fin 2 × Fin 16 => ℓ ↦{tok (pairL p)} f) := by
  have h := Transfers.pointsTo_toks (Ix := HIx 2) (Name := ℕ) (U := UU) (Lvl := ℕ) (S := Finset.univ) (f := f) (ℓ := ℓ) fullShare 32
  rw [BI.Entails.antisymm h.1 h.2, bigSep_univ_equiv (finProdFinEquiv : Fin 2 × Fin 16 ≃ Fin 32)]
  rfl

/-- Pieces at some contents, from pieces at known ones. -/
theorem pieces_ex {ℓ : Loc nD τ sig} (R : Fin 2 × Fin 16 → Finset (Idx ℓ)) (f : Buf (Elt F) ℓ) :
    (bigSep Finset.univ fun p : Fin 2 × Fin 16 => (ℓ ↦[R p]{fullShare} f : sProp 𝕄))
      ⊢ bigSep Finset.univ fun p : Fin 2 × Fin 16 => (iprop(∃ f, ℓ ↦[R p]{fullShare} f) : sProp 𝕄) :=
  bigSep_mono fun p _ => show (ℓ ↦[R p]{fullShare} f : sProp 𝕄) ⊢ iprop(∃ f, ℓ ↦[R p]{fullShare} f) by iintro H; iexists f; iexact H

theorem bigSep_none {I : Type} (s : Finset I) : (bigSep s fun _ => iprop(emp)) = (iprop(emp) : sProp 𝕄) := bigSep_emp_const s

/-! ## The gathered rows -/

/-- Row `n` of the output: the table's row that word `n` of the index table names. -/
def gathered (tab : S10000x128.Idx → Elt F .f32) (ix : S32x80.Idx → BitVec 32) (y : S2560x128.Idx) : Elt F .f32 :=
  rowOf tab (ix (ix2 ⟨(y 0).val / 80, by have : (y 0).val < 2560 := (y 0).isLt; omega⟩ ⟨(y 0).val % 80, by omega⟩)) (y 1)

theorem gathered_block (tab : S10000x128.Idx → Elt F .f32) (ix : S32x80.Idx → BitVec 32) (L : grid1.Coords) (j : S80x128.Idx) :
    gathered tab ix ((Rect.unit (s := S2560x128) (k1_off18 L) S80x128.size (k1_off18_inb L)).emb j)
      = rowOf tab (ix ((Rect.unit (s := S32x80) (k1_off2 L) S1x80.size (k1_off2_inb L)).emb (ix2 0 (j 0)))) (j 1) := by
  have hj : (j 0).val < 80 := (j 0).isLt
  have e18 := k1_off18_eq L
  have e2 := k1_off2_eq L
  have h0 : (((Rect.unit (s := S2560x128) (k1_off18 L) S80x128.size (k1_off18_inb L)).emb j) 0).val = 80 * (L 1).val + 1280 * (L 0).val + (j 0).val := by
    rw [Rect.emb_apply]
    show k1_off18 L 0 + 1 * (j 0).val = _
    rw [e18]; show 80 * (L 1).val + 1280 * (L 0).val + 1 * (j 0).val = _; omega
  have h1 : (((Rect.unit (s := S2560x128) (k1_off18 L) S80x128.size (k1_off18_inb L)).emb j) 1).val = (j 1).val := by
    rw [Rect.emb_apply]
    show k1_off18 L 1 + 1 * (j 1).val = _
    rw [e18]; show 0 + 1 * (j 1).val = _; omega
  unfold gathered
  have e1 : (((Rect.unit (s := S2560x128) (k1_off18 L) S80x128.size (k1_off18_inb L)).emb j) 1) = j 1 := Fin.ext h1
  rw [e1]
  congr 2
  funext a
  apply Fin.ext
  match a with
  | 0 =>
    show (((Rect.unit (s := S2560x128) (k1_off18 L) S80x128.size (k1_off18_inb L)).emb j) 0).val / 80 = k1_off2 L 0 + 1 * 0
    rw [h0, e2]; show _ = (L 1).val + 16 * (L 0).val + 1 * 0; omega
  | 1 =>
    show (((Rect.unit (s := S2560x128) (k1_off18 L) S80x128.size (k1_off18_inb L)).emb j) 0).val % 80 = k1_off2 L 1 + 1 * (j 0).val
    rw [h0, e2]; show _ = 0 + 1 * (j 0).val; omega

/-- Contents that agree with the gathered rows on a task's block. -/
theorem gathered_agree (tab : S10000x128.Idx → Elt F .f32) (ix : S32x80.Idx → BitVec 32) (L : grid1.Coords) (g : S2560x128.Idx → Elt F .f32)
    (hg : ∀ j : S80x128.Idx, g ((Rect.unit (s := S2560x128) (k1_off18 L) S80x128.size (k1_off18_inb L)).emb j)
      = rowOf tab (ix ((Rect.unit (s := S32x80) (k1_off2 L) S1x80.size (k1_off2_inb L)).emb (ix2 0 (j 0)))) (j 1)) :
    ∀ y ∈ oSet L, g y = gathered tab ix y := by
  intro y hy
  rw [oSet, ← Rect.map_emb_univ] at hy
  obtain ⟨j, -, rfl⟩ := Finset.mem_map.mp hy
  exact (hg j).trans (gathered_block tab ix L j).symm

/-! ## A tile's scratch and semaphores among its own -/

/-- Three semaphores of a subcore's own, at zero, and the rest. -/
theorem ownSems_three (thr : Thread nD τ) (a b c : SemLoc sig) (ha : a.isScoped thr.2.kind = true) (hb : b.isScoped thr.2.kind = true)
    (hc : c.isScoped thr.2.kind = true) (hab : a ≠ b) (hac : a ≠ c) (hbc : b ≠ c) :
    (ownSems0 thr : sProp 𝕄)
      = iprop(semVal (thr, a) 0 ∗ semVal (thr, b) 0 ∗ semVal (thr, c) 0
          ∗ bigSep ((((ownCells thr).erase (thr, a)).erase (thr, b)).erase (thr, c)) fun g => semVal g 0) := by
  unfold SparseCore.Cfg.ownSems0
  rw [SparseCore.bigSep_erase' ((mem_ownCells (g := (thr, a))).mpr ⟨rfl, ha⟩),
    SparseCore.bigSep_erase' (Finset.mem_erase.mpr ⟨fun e => hab (Prod.mk.inj e).2.symm, (mem_ownCells (g := (thr, b))).mpr ⟨rfl, hb⟩⟩),
    SparseCore.bigSep_erase' (Finset.mem_erase.mpr ⟨fun e => hbc (Prod.mk.inj e).2.symm, Finset.mem_erase.mpr ⟨fun e => hac (Prod.mk.inj e).2.symm,
      (mem_ownCells (g := (thr, c))).mpr ⟨rfl, hc⟩⟩⟩)]

/-- Two scratch buffers of a subcore's own, at some contents, and the rest. -/
theorem ownBufs_two (d : Dev nD) (c : Fin τ.nSC) (i : Fin τ.nSub) (r r' : Ref sig .scVector)
    (h : ((Proc.scVector c i).devRef r).owner = .proc (Proc.scVector c i)) (h' : ((Proc.scVector c i).devRef r').owner = .proc (Proc.scVector c i))
    (hne : r' ≠ r) :
    (ownBufs (V d c i) : sProp 𝕄)
      = iprop((∃ f, (V d c i).loc r ↦{fullShare} f) ∗ (∃ f, (V d c i).loc r' ↦{fullShare} f)
          ∗ bigSep (((ownRefs (τ := τ) (.scVector c i)).erase ((Proc.scVector c i).devRef r)).erase ((Proc.scVector c i).devRef r'))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef r) h)).trans ?_
  rw [SparseCore.bigSep_erase' (Finset.mem_erase.mpr ⟨fun e => absurd (Proc.devRef_injective _ e) hne,
    SparseCore.Cfg.mem_ownRefs_of_owner (p := Proc.scVector c i) (b := (Proc.scVector c i).devRef r') h'⟩)]

variable [FloatOps F]

/-! ## Call 0 -/

abbrev xLoc0 (d : Dev nD) : Loc nD τ sig := (SparseCore.T d).loc main_arg0
abbrev iLoc0 (d : Dev nD) : Loc nD τ sig := (SparseCore.T d).loc main_v14
abbrev oLoc0 (d : Dev nD) : Loc nD τ sig := (SparseCore.T d).loc main_v15

/-- What call 0 hands task `L`: its share of the table, its row of the index table, its block of the output; -/
abbrev GO0 (tab : S10000x128.Idx → Elt F .f32) (ix : S32x80.Idx → Elt F .i32) (d : Dev nD) (L : grid1.Coords) : sProp 𝕄 :=
  iprop((xLoc0 d ↦{tok L} tab) ∗ (iLoc0 d ↦[iSet L]{fullShare} ix) ∗ ∃ f, oLoc0 d ↦[oSet L]{fullShare} f)
/-- what the task hands back: the block at the gathered rows. -/
abbrev TD0 (tab : S10000x128.Idx → Elt F .f32) (ix : S32x80.Idx → Elt F .i32) (d : Dev nD) (L : grid1.Coords) : sProp 𝕄 :=
  iprop((xLoc0 d ↦{tok L} tab) ∗ (iLoc0 d ↦[iSet L]{fullShare} ix) ∗ oLoc0 d ↦[oSet L]{fullShare} gathered tab ix)

theorem set_i0 (L : grid1.Coords) : (iRow L (Memref.whole main_v14_scv)).view.set = iSet L := by
  show ((View.whole (main_v14_scv : Ref sig .scVector)).slice _).set = _
  rw [View.set_slice]; exact Finset.map_refl
theorem set_o0 (L : grid1.Coords) : (oBlk L (Memref.whole main_v15_scv)).view.set = oSet L := by
  show ((View.whole (main_v15_scv : Ref sig .scVector)).slice _).set = _
  rw [View.set_slice]; exact Finset.map_refl
theorem set_x0 : (Memref.whole main_arg0_scv : Memref sig .scVector .hbm S10000x128 .f32).view.set = Finset.univ := View.set_whole _

theorem set_s0 : (Memref.whole cc1_scoped0).view.set = Finset.univ := View.set_whole _
theorem set_r0 : (Memref.whole cc1_scoped2).view.set = Finset.univ := View.set_whole _

/-- The task of call 0 on tile `L`. -/
theorem tile_task0 (tab : S10000x128.Idx → Elt F .f32) (ix : S32x80.Idx → Elt F .i32) (hix : ∀ y, (ix y : BitVec 32).toNat < 10000)
    (d : Dev nD) (L : grid1.Coords) (O : CellTallies nD τ sig (HIx 2)) (W : Waits sig (HIx 2)) (hO : ∀ g, O g none = 0) :
    iprop(levAts (K (F := F)).L (K (F := F)).lev ∗ emp ∗ GO0 tab ix d L
        ∗ scopedBufs (tV d L) ∗ scopedSems0 (tV d L) ∗ owes (tV d L) O W)
      ⊢ wp frame (wpE (defs₀ (F := F)) 𝒱₀ (tV d L) none) Set.univ
          (cc1_kern L (Memref.whole main_arg0_scv) (Memref.isWhole_whole _) (Memref.whole main_v14_scv) (Memref.isWhole_whole _)
            (Memref.whole main_v15_scv) (Memref.isWhole_whole _) (Memref.whole cc1_scoped0) (Memref.isWhole_whole _) cc1_scoped1
            (Memref.whole cc1_scoped2) (Memref.isWhole_whole _) cc1_scoped3 cc1_scoped4)
          fun _ => (iprop(TD0 tab ix d L ∗ scopedBufs (tV d L) ∗ scopedSems0 (tV d L)
            ∗ ∃ W', ⌜∀ p ∈ W', p ∈ W ∨ p.2 = none⌝ ∗ owes (tV d L) O W') : sProp 𝕄) := by
  rw [(K (F := F)).scopedBufs_V facts d (cV L) (jV L), SparseCore.Cfg.scopedSems0_V (Val := Elt F) d (cV L) (jV L),
    ownSems_three (tV d L) (.dma (sem0 cc1_scoped1).sem) (.dma (sem0 cc1_scoped3).sem) (.dma cc1_scoped4.sem)
      (show (SemLoc.dma (sem0 cc1_scoped1).sem : SemLoc sig).isScoped .scVector = true by decide)
      (show (SemLoc.dma (sem0 cc1_scoped3).sem : SemLoc sig).isScoped .scVector = true by decide)
      (show (SemLoc.dma cc1_scoped4.sem : SemLoc sig).isScoped .scVector = true by decide) (by decide) (by decide) (by decide),
    ownBufs_two d (cV L) (jV L) cc1_scoped0 cc1_scoped2 rfl rfl (by decide)]
  iintro ⟨#Hlv, -, ⟨Hx, Hi, %fo, Ho⟩, ⟨⟨%fs, Hs⟩, ⟨%fr, Hr⟩, Hbufs⟩, ⟨HsemI, HsemO, HsemG, Hsems⟩, HO⟩
  ihave Hmw := (show levAts (K (F := F)).L (K (F := F)).lev ⊢ (Transfers.MayWaits (tV d L) (default : HIx 2) O : sProp 𝕄) from
    (K (F := F)).mayWaits_none (thr := tV d L) hO) $$ Hlv
  iapply (wp_wand frame (wpE (defs₀ (F := F)) 𝒱₀ (tV d L) none) Set.univ) $$ [Hmw Hx Hi Ho Hs Hr HsemI HsemO HsemG HO]
  · iapply (tile_body d L (Memref.whole main_arg0_scv) (Memref.isWhole_whole _) (Memref.whole main_v14_scv) (Memref.isWhole_whole _)
      (Memref.whole main_v15_scv) (Memref.isWhole_whole _) (Memref.whole cc1_scoped0) (Memref.isWhole_whole _)
      (Memref.whole cc1_scoped2) (Memref.isWhole_whole _) cc1_scoped1 cc1_scoped3 cc1_scoped4 (tok L) tab ix fo fs fr (fun j => hix _) O W)
    isplitl [Hmw]; · iexact Hmw
    isplitl [Hx]; · rw [set_x0]; iexact Hx
    isplitl [Hi]; · rw [set_i0]; iexact Hi
    isplitl [Ho]; · rw [set_o0]; iexact Ho
    isplitl [Hs]; · rw [set_s0]; iexact Hs
    isplitl [Hr]; · rw [set_r0]; iexact Hr
    isplitl [HsemI]; · iexact HsemI
    isplitl [HsemO]; · iexact HsemO
    isplitl [HsemG]; · iexact HsemG
    iexact HO
  · iintro %_ ⟨Hx, Hi, ⟨%g, %hg, Ho⟩, ⟨%fs', Hs⟩, ⟨%fr', Hr⟩, HsemI, HsemO, HsemG, HO⟩
    isplitl [Hx Hi Ho]
    · isplitl [Hx]; · rw [set_x0]; iexact Hx
      isplitl [Hi]; · rw [set_i0]; iexact Hi
      rw [set_o0]
      iapply (Entails.of_eq (pointsTo_congr (gathered_agree tab ix L g hg))) $$ Ho
    isplitl [Hs Hr Hbufs]
    · isplitl [Hs]; · rw [set_s0]; iexists _; iexact Hs
      isplitl [Hr]; · rw [set_r0]; iexists _; iexact Hr
      iexact Hbufs
    isplitl [HsemI HsemO HsemG Hsems]
    · isplitl [HsemI]; · iexact HsemI
      isplitl [HsemO]; · iexact HsemO
      isplitl [HsemG]; · iexact HsemG
      iexact Hsems
    iexact HO

/-! ## Call 1 -/

abbrev xLoc1 (d : Dev nD) : Loc nD τ sig := (SparseCore.T d).loc main_arg1
abbrev iLoc1 (d : Dev nD) : Loc nD τ sig := (SparseCore.T d).loc main_v18
abbrev oLoc1 (d : Dev nD) : Loc nD τ sig := (SparseCore.T d).loc main_v19

/-- What call 1 hands task `L`: its share of the table, its row of the index table, its block of the output; -/
abbrev GO1 (tab : S10000x128.Idx → Elt F .f32) (ix : S32x80.Idx → Elt F .i32) (d : Dev nD) (L : grid1.Coords) : sProp 𝕄 :=
  iprop((xLoc1 d ↦{tok L} tab) ∗ (iLoc1 d ↦[iSet L]{fullShare} ix) ∗ ∃ f, oLoc1 d ↦[oSet L]{fullShare} f)
/-- what the task hands back: the block at the gathered rows. -/
abbrev TD1 (tab : S10000x128.Idx → Elt F .f32) (ix : S32x80.Idx → Elt F .i32) (d : Dev nD) (L : grid1.Coords) : sProp 𝕄 :=
  iprop((xLoc1 d ↦{tok L} tab) ∗ (iLoc1 d ↦[iSet L]{fullShare} ix) ∗ oLoc1 d ↦[oSet L]{fullShare} gathered tab ix)

theorem set_i1 (L : grid1.Coords) : (iRow L (Memref.whole main_v18_scv)).view.set = iSet L := by
  show ((View.whole (main_v18_scv : Ref sig .scVector)).slice _).set = _
  rw [View.set_slice]; exact Finset.map_refl
theorem set_o1 (L : grid1.Coords) : (oBlk L (Memref.whole main_v19_scv)).view.set = oSet L := by
  show ((View.whole (main_v19_scv : Ref sig .scVector)).slice _).set = _
  rw [View.set_slice]; exact Finset.map_refl
theorem set_x1 : (Memref.whole main_arg1_scv : Memref sig .scVector .hbm S10000x128 .f32).view.set = Finset.univ := View.set_whole _

theorem set_s1 : (Memref.whole cc2_scoped0).view.set = Finset.univ := View.set_whole _
theorem set_r1 : (Memref.whole cc2_scoped2).view.set = Finset.univ := View.set_whole _

/-- The task of call 1 on tile `L`. -/
theorem tile_task1 (tab : S10000x128.Idx → Elt F .f32) (ix : S32x80.Idx → Elt F .i32) (hix : ∀ y, (ix y : BitVec 32).toNat < 10000)
    (d : Dev nD) (L : grid1.Coords) (O : CellTallies nD τ sig (HIx 2)) (W : Waits sig (HIx 2)) (hO : ∀ g, O g none = 0) :
    iprop(levAts (K (F := F)).L (K (F := F)).lev ∗ emp ∗ GO1 tab ix d L
        ∗ scopedBufs (tV d L) ∗ scopedSems0 (tV d L) ∗ owes (tV d L) O W)
      ⊢ wp frame (wpE (defs₀ (F := F)) 𝒱₀ (tV d L) none) Set.univ
          (cc2_kern L (Memref.whole main_arg1_scv) (Memref.isWhole_whole _) (Memref.whole main_v18_scv) (Memref.isWhole_whole _)
            (Memref.whole main_v19_scv) (Memref.isWhole_whole _) (Memref.whole cc2_scoped0) (Memref.isWhole_whole _) cc2_scoped1
            (Memref.whole cc2_scoped2) (Memref.isWhole_whole _) cc2_scoped3 cc2_scoped4)
          fun _ => (iprop(TD1 tab ix d L ∗ scopedBufs (tV d L) ∗ scopedSems0 (tV d L)
            ∗ ∃ W', ⌜∀ p ∈ W', p ∈ W ∨ p.2 = none⌝ ∗ owes (tV d L) O W') : sProp 𝕄) := by
  rw [cc2_eq_cc1]
  rw [(K (F := F)).scopedBufs_V facts d (cV L) (jV L), SparseCore.Cfg.scopedSems0_V (Val := Elt F) d (cV L) (jV L),
    ownSems_three (tV d L) (.dma (sem0 cc2_scoped1).sem) (.dma (sem0 cc2_scoped3).sem) (.dma cc2_scoped4.sem)
      (show (SemLoc.dma (sem0 cc2_scoped1).sem : SemLoc sig).isScoped .scVector = true by decide)
      (show (SemLoc.dma (sem0 cc2_scoped3).sem : SemLoc sig).isScoped .scVector = true by decide)
      (show (SemLoc.dma cc2_scoped4.sem : SemLoc sig).isScoped .scVector = true by decide) (by decide) (by decide) (by decide),
    ownBufs_two d (cV L) (jV L) cc2_scoped0 cc2_scoped2 rfl rfl (by decide)]
  iintro ⟨#Hlv, -, ⟨Hx, Hi, %fo, Ho⟩, ⟨⟨%fs, Hs⟩, ⟨%fr, Hr⟩, Hbufs⟩, ⟨HsemI, HsemO, HsemG, Hsems⟩, HO⟩
  ihave Hmw := (show levAts (K (F := F)).L (K (F := F)).lev ⊢ (Transfers.MayWaits (tV d L) (default : HIx 2) O : sProp 𝕄) from
    (K (F := F)).mayWaits_none (thr := tV d L) hO) $$ Hlv
  iapply (wp_wand frame (wpE (defs₀ (F := F)) 𝒱₀ (tV d L) none) Set.univ) $$ [Hmw Hx Hi Ho Hs Hr HsemI HsemO HsemG HO]
  · iapply (tile_body d L (Memref.whole main_arg1_scv) (Memref.isWhole_whole _) (Memref.whole main_v18_scv) (Memref.isWhole_whole _)
      (Memref.whole main_v19_scv) (Memref.isWhole_whole _) (Memref.whole cc2_scoped0) (Memref.isWhole_whole _)
      (Memref.whole cc2_scoped2) (Memref.isWhole_whole _) cc2_scoped1 cc2_scoped3 cc2_scoped4 (tok L) tab ix fo fs fr (fun j => hix _) O W)
    isplitl [Hmw]; · iexact Hmw
    isplitl [Hx]; · rw [set_x1]; iexact Hx
    isplitl [Hi]; · rw [set_i1]; iexact Hi
    isplitl [Ho]; · rw [set_o1]; iexact Ho
    isplitl [Hs]; · rw [set_s1]; iexact Hs
    isplitl [Hr]; · rw [set_r1]; iexact Hr
    isplitl [HsemI]; · iexact HsemI
    isplitl [HsemO]; · iexact HsemO
    isplitl [HsemG]; · iexact HsemG
    iexact HO
  · iintro %_ ⟨Hx, Hi, ⟨%g, %hg, Ho⟩, ⟨%fs', Hs⟩, ⟨%fr', Hr⟩, HsemI, HsemO, HsemG, HO⟩
    isplitl [Hx Hi Ho]
    · isplitl [Hx]; · rw [set_x1]; iexact Hx
      isplitl [Hi]; · rw [set_i1]; iexact Hi
      rw [set_o1]
      iapply (Entails.of_eq (pointsTo_congr (gathered_agree tab ix L g hg))) $$ Ho
    isplitl [Hs Hr Hbufs]
    · isplitl [Hs]; · rw [set_s1]; iexists _; iexact Hs
      isplitl [Hr]; · rw [set_r1]; iexists _; iexact Hr
      iexact Hbufs
    isplitl [HsemI HsemO HsemG Hsems]
    · isplitl [HsemI]; · iexact HsemI
      isplitl [HsemO]; · iexact HsemO
      isplitl [HsemG]; · iexact HsemG
      iexact Hsems
    iexact HO

/-! ## What the handshakes carry -/

section Launch

variable (t₀ t₁ : Dev nD → S10000x128.Idx → Elt F .f32) (x₀ x₁ : Dev nD → S32x80.Idx → Elt F .i32)

/-- Each call takes every task's pieces to the sequencers and each task its own, and brings them back with the block written. -/
def P : (K (F := F)).Pay (nD := nD) (Val := Elt F) (Name := ℕ) (U := UU) where
  st := fun q d c => match q with
    | 0 => bigSep Finset.univ fun i : Fin 16 => GO0 (t₀ d) (x₀ d) d (pairL (Fin.cast nCore_zero c, i))
    | 1 => bigSep Finset.univ fun i : Fin 16 => GO1 (t₁ d) (x₁ d) d (pairL (Fin.cast nCore_one c, i))
  dn := fun q d c => match q with
    | 0 => bigSep Finset.univ fun i : Fin 16 => TD0 (t₀ d) (x₀ d) d (pairL (Fin.cast nCore_zero c, i))
    | 1 => bigSep Finset.univ fun i : Fin 16 => TD1 (t₁ d) (x₁ d) d (pairL (Fin.cast nCore_one c, i))
  go := fun q d c i => match q with
    | 0 => GO0 (t₀ d) (x₀ d) d (pairL (Fin.cast nCore_zero c, Fin.cast nSub_zero i))
    | 1 => GO1 (t₁ d) (x₁ d) d (pairL (Fin.cast nCore_one c, Fin.cast nSub_one i))
  td := fun q d c i => match q with
    | 0 => TD0 (t₀ d) (x₀ d) d (pairL (Fin.cast nCore_zero c, Fin.cast nSub_zero i))
    | 1 => TD1 (t₁ d) (x₁ d) d (pairL (Fin.cast nCore_one c, Fin.cast nSub_one i))
  x := fun _ _ => iprop(emp)

instance P_storable : (P t₀ t₁ x₀ x₁).IsStorable where
  st q d c := match q with
    | 0 => (inferInstance : BI.Storable (upEmb : UEmb _ 𝕄) (bigSep Finset.univ fun i : Fin 16 => GO0 (t₀ d) (x₀ d) d (pairL (Fin.cast nCore_zero c, i))))
    | 1 => (inferInstance : BI.Storable (upEmb : UEmb _ 𝕄) (bigSep Finset.univ fun i : Fin 16 => GO1 (t₁ d) (x₁ d) d (pairL (Fin.cast nCore_one c, i))))
  dn q d c := match q with
    | 0 => (inferInstance : BI.Storable (upEmb : UEmb _ 𝕄) (bigSep Finset.univ fun i : Fin 16 => TD0 (t₀ d) (x₀ d) d (pairL (Fin.cast nCore_zero c, i))))
    | 1 => (inferInstance : BI.Storable (upEmb : UEmb _ 𝕄) (bigSep Finset.univ fun i : Fin 16 => TD1 (t₁ d) (x₁ d) d (pairL (Fin.cast nCore_one c, i))))
  go q d c i := match q with
    | 0 => (inferInstance : BI.Storable (upEmb : UEmb _ 𝕄) (GO0 (t₀ d) (x₀ d) d (pairL (Fin.cast nCore_zero c, Fin.cast nSub_zero i))))
    | 1 => (inferInstance : BI.Storable (upEmb : UEmb _ 𝕄) (GO1 (t₁ d) (x₁ d) d (pairL (Fin.cast nCore_one c, Fin.cast nSub_one i))))
  td q d c i := match q with
    | 0 => (inferInstance : BI.Storable (upEmb : UEmb _ 𝕄) (TD0 (t₀ d) (x₀ d) d (pairL (Fin.cast nCore_zero c, Fin.cast nSub_zero i))))
    | 1 => (inferInstance : BI.Storable (upEmb : UEmb _ 𝕄) (TD1 (t₁ d) (x₁ d) d (pairL (Fin.cast nCore_one c, Fin.cast nSub_one i))))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 1 ()
      = SparseCore.onTile hcore1 hsub1 (fun c s => cc1_kern (coordsV c s)
            (Memref.whole main_arg0_scv) (Memref.isWhole_whole _) (Memref.whole main_v14_scv) (Memref.isWhole_whole _)
            (Memref.whole main_v15_scv) (Memref.isWhole_whole _) (Memref.whole cc1_scoped0) (Memref.isWhole_whole _) cc1_scoped1
            (Memref.whole cc1_scoped2) (Memref.isWhole_whole _) cc1_scoped3 cc1_scoped4) ⟨⟩ c s := rfl

set_option maxRecDepth 16384 in
/-- Every tile of call 0 does its task. -/
theorem tileObl0 (hix : ∀ d y, (x₀ d y : BitVec 32).toNat < 10000) : (K (F := F)).TileObl (D (F := F)) 𝒱 (P t₀ t₁ x₀ x₁) v₀ 0 := by
  intro d c i O W hO _ _
  simp only [show (P t₀ t₁ x₀ x₁).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_task0 (t₀ d) (x₀ d) (hix d) d (coordsV ⟨_, hci.1⟩ ⟨_, hci.2⟩) O W hO).trans (wp_mono frame _ _ fun _ => obl_post)

theorem vecSplit0 : (K (F := F)).VecSplit' (P t₀ t₁ x₀ x₁) 0 := by
  intro d c
  show (bigSep Finset.univ fun i : Fin 16 => GO0 (t₀ d) (x₀ d) d (pairL (c, i))) ⊢ |={Set.univ}=> iprop(
      (bigSep Finset.univ fun i : Fin 16 => GO0 (t₀ d) (x₀ d) d (pairL (c, i)))
      ∗ ((bigSep Finset.univ fun i : Fin 16 => TD0 (t₀ d) (x₀ d) d (pairL (c, i)))
          -∗ bigSep Finset.univ fun i : Fin 16 => TD0 (t₀ d) (x₀ d) d (pairL (c, i))))
  iintro H; imodintro
  isplitl [H]; · iexact H
  iintro H; iexact H

/-- What call 0 takes is the table, the index table and the output whole, but for a share of the table the TensorCore keeps;
    what it brings back is the same with the output at the gathered rows. -/
theorem call_split0 (d : Dev nD) (f : S2560x128.Idx → Elt F .f32) :
    iprop((xLoc0 d ↦{fullShare} t₀ d) ∗ (iLoc0 d ↦{fullShare} x₀ d) ∗ oLoc0 d ↦{fullShare} f)
      ⊢ (iprop((bigSep Finset.univ fun c : Fin ((K (F := F)).nCore 0) => (P t₀ t₁ x₀ x₁).st 0 d c)
          ∗ ((bigSep Finset.univ fun c : Fin ((K (F := F)).nCore 0) => (P t₀ t₁ x₀ x₁).dn 0 d c)
            -∗ (xLoc0 d ↦{fullShare} t₀ d) ∗ (iLoc0 d ↦{fullShare} x₀ d) ∗ oLoc0 d ↦{fullShare} gathered (t₀ d) (x₀ d))) : sProp 𝕄) := by
  rw [show (bigSep Finset.univ fun c : Fin ((K (F := F)).nCore 0) => (P t₀ t₁ x₀ x₁).st 0 d c)
      = bigSep Finset.univ fun p : Fin 2 × Fin 16 => GO0 (t₀ d) (x₀ d) d (pairL p) from
        (bigSep_univ_prod (fun p : Fin 2 × Fin 16 => GO0 (t₀ d) (x₀ d) d (pairL p))).symm,
    show (bigSep Finset.univ fun c : Fin ((K (F := F)).nCore 0) => (P t₀ t₁ x₀ x₁).dn 0 d c)
      = bigSep Finset.univ fun p : Fin 2 × Fin 16 => TD0 (t₀ d) (x₀ d) d (pairL p) from
        (bigSep_univ_prod (fun p : Fin 2 × Fin 16 => TD0 (t₀ d) (x₀ d) d (pairL p))).symm,
    bigSep_sep', bigSep_sep', bigSep_sep', bigSep_sep', whole_tokens (ℓ := xLoc0 d),
    whole_pieces (ℓ := iLoc0 d) (fun p => iSet (pairL p)) iSet_disjoint iSet_cover,
    whole_pieces (ℓ := oLoc0 d) (fun p => oSet (pairL p)) oSet_disjoint oSet_cover f,
    whole_pieces (ℓ := oLoc0 d) (fun p => oSet (pairL p)) oSet_disjoint oSet_cover (gathered (t₀ d) (x₀ d))]
  iintro ⟨⟨Hk, Hx⟩, Hi, Ho⟩
  isplitl [Hx Hi Ho]
  · isplitl [Hx]; · iexact Hx
    isplitl [Hi]; · iexact Hi
    iapply (pieces_ex (ℓ := oLoc0 d) (fun p => oSet (pairL p)) f) $$ Ho
  iintro ⟨Hx, Hi, Ho⟩
  isplitl [Hk Hx]
  · isplitl [Hk] <;> iassumption
  isplitl [Hi] <;> iassumption

theorem defs₀_vector1 (c : Fin τ.nSC) (s : Fin τ.nSub) :
    defs₀ (F := F) (.scVector c s) 2 ()
      = SparseCore.onTile hcore2 hsub2 (fun c s => cc2_kern (coordsV c s)
            (Memref.whole main_arg1_scv) (Memref.isWhole_whole _) (Memref.whole main_v18_scv) (Memref.isWhole_whole _)
            (Memref.whole main_v19_scv) (Memref.isWhole_whole _) (Memref.whole cc2_scoped0) (Memref.isWhole_whole _) cc2_scoped1
            (Memref.whole cc2_scoped2) (Memref.isWhole_whole _) cc2_scoped3 cc2_scoped4) ⟨⟩ c s := rfl

set_option maxRecDepth 16384 in
/-- Every tile of call 1 does its task. -/
theorem tileObl1 (hix : ∀ d y, (x₁ d y : BitVec 32).toNat < 10000) : (K (F := F)).TileObl (D (F := F)) 𝒱 (P t₀ t₁ x₀ x₁) v₀ 1 := by
  intro d c i O W hO _ _
  simp only [show (P t₀ t₁ x₀ x₁).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_task1 (t₁ d) (x₁ d) (hix d) d (coordsV ⟨_, hci.1⟩ ⟨_, hci.2⟩) O W hO).trans (wp_mono frame _ _ fun _ => obl_post)

theorem vecSplit1 : (K (F := F)).VecSplit' (P t₀ t₁ x₀ x₁) 1 := by
  intro d c
  show (bigSep Finset.univ fun i : Fin 16 => GO1 (t₁ d) (x₁ d) d (pairL (c, i))) ⊢ |={Set.univ}=> iprop(
      (bigSep Finset.univ fun i : Fin 16 => GO1 (t₁ d) (x₁ d) d (pairL (c, i)))
      ∗ ((bigSep Finset.univ fun i : Fin 16 => TD1 (t₁ d) (x₁ d) d (pairL (c, i)))
          -∗ bigSep Finset.univ fun i : Fin 16 => TD1 (t₁ d) (x₁ d) d (pairL (c, i))))
  iintro H; imodintro
  isplitl [H]; · iexact H
  iintro H; iexact H

/-- What call 1 takes is the table, the index table and the output whole, but for a share of the table the TensorCore keeps;
    what it brings back is the same with the output at the gathered rows. -/
theorem call_split1 (d : Dev nD) (f : S2560x128.Idx → Elt F .f32) :
    iprop((xLoc1 d ↦{fullShare} t₁ d) ∗ (iLoc1 d ↦{fullShare} x₁ d) ∗ oLoc1 d ↦{fullShare} f)
      ⊢ (iprop((bigSep Finset.univ fun c : Fin ((K (F := F)).nCore 1) => (P t₀ t₁ x₀ x₁).st 1 d c)
          ∗ ((bigSep Finset.univ fun c : Fin ((K (F := F)).nCore 1) => (P t₀ t₁ x₀ x₁).dn 1 d c)
            -∗ (xLoc1 d ↦{fullShare} t₁ d) ∗ (iLoc1 d ↦{fullShare} x₁ d) ∗ oLoc1 d ↦{fullShare} gathered (t₁ d) (x₁ d))) : sProp 𝕄) := by
  rw [show (bigSep Finset.univ fun c : Fin ((K (F := F)).nCore 1) => (P t₀ t₁ x₀ x₁).st 1 d c)
      = bigSep Finset.univ fun p : Fin 2 × Fin 16 => GO1 (t₁ d) (x₁ d) d (pairL p) from
        (bigSep_univ_prod (fun p : Fin 2 × Fin 16 => GO1 (t₁ d) (x₁ d) d (pairL p))).symm,
    show (bigSep Finset.univ fun c : Fin ((K (F := F)).nCore 1) => (P t₀ t₁ x₀ x₁).dn 1 d c)
      = bigSep Finset.univ fun p : Fin 2 × Fin 16 => TD1 (t₁ d) (x₁ d) d (pairL p) from
        (bigSep_univ_prod (fun p : Fin 2 × Fin 16 => TD1 (t₁ d) (x₁ d) d (pairL p))).symm,
    bigSep_sep', bigSep_sep', bigSep_sep', bigSep_sep', whole_tokens (ℓ := xLoc1 d),
    whole_pieces (ℓ := iLoc1 d) (fun p => iSet (pairL p)) iSet_disjoint iSet_cover,
    whole_pieces (ℓ := oLoc1 d) (fun p => oSet (pairL p)) oSet_disjoint oSet_cover f,
    whole_pieces (ℓ := oLoc1 d) (fun p => oSet (pairL p)) oSet_disjoint oSet_cover (gathered (t₁ d) (x₁ d))]
  iintro ⟨⟨Hk, Hx⟩, Hi, Ho⟩
  isplitl [Hx Hi Ho]
  · isplitl [Hx]; · iexact Hx
    isplitl [Hi]; · iexact Hi
    iapply (pieces_ex (ℓ := oLoc1 d) (fun p => oSet (pairL p)) f) $$ Ho
  iintro ⟨Hx, Hi, Ho⟩
  isplitl [Hk Hx]
  · isplitl [Hk] <;> iassumption
  isplitl [Hi] <;> iassumption

/-! ## The launch element: the handshakes' cells, and the TensorCore call's staging cells -/

/-- The TensorCore call's pipeline, of no prefetched table. -/
abbrev adm : (p : Fin 1) → (pcfgs (F := F) p).Adm := fun p => (cfgs p).toPCfg_adm
abbrev pins : Fin 1 → Pipeline.Cfg sig Λ₀ := Pipeline.pin (pcfgs (F := F)) adm

theorem pins_inj : Function.Injective (Pipeline.cellOf (nD := nD) (τ := τ) (pins (F := F))) := cellOf_inj

/-- What device `d`'s TensorCore is dealt for it. -/
def ghost (d : Dev nD) : sProp 𝕄 := iprop(Pipeline.cellsGhost (pins (F := F)) EP 0 d ∗ Pipeline.toksInit (pins (F := F)) EP 0 d)

def u₀ : UU := (initOf (K (F := F)).hsCells (K (F := F)).hsToks,
  initOf (Pipeline.cells (pins (F := F)) (pins_inj (F := F))) (Pipeline.launchToks (pins (F := F)) (pins_inj (F := F))), 1)

theorem bigSep_one (Φ : Fin 1 → sProp 𝕄) : bigSep Finset.univ Φ = Φ 0 :=
  bigSep_univ_eq_bigSepL [(0 : Fin 1)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 2 => (P t₀ t₁ x₀ x₁).x q thr) := by
  unfold u₀
  iintro Hu
  ihave H := (ownU_pair (initOf (K (F := F)).hsCells (K (F := F)).hsToks)
    (initOf (Pipeline.cells (pins (F := F)) (pins_inj (F := F))) (Pipeline.launchToks (pins (F := F)) (pins_inj (F := F))), (1 : Counters))) $$ Hu
  icases H with ⟨HH, HR⟩
  ihave H := (own_pair_emb embR (initOf (Pipeline.cells (pins (F := F)) (pins_inj (F := F))) (Pipeline.launchToks (pins (F := F)) (pins_inj (F := F)))) (1 : Counters)) $$ HR
  icases H with ⟨HP, -⟩
  ihave HP := (show (BI.own (((Emb.inl : Emb UK (UK × Counters)).trans embR)
      (initOf (Pipeline.cells (pins (F := F)) (pins_inj (F := F))) (Pipeline.launchToks (pins (F := F)) (pins_inj (F := F))))) : sProp 𝕄)
    ⊢ BI.own (EP (initOf (Pipeline.cells (pins (F := F)) (pins_inj (F := F))) (Pipeline.launchToks (pins (F := F)) (pins_inj (F := F))))) from .rfl) $$ HP
  imod (Pipeline.fund_ghost (pins (F := F)) EP (pins_inj (F := F))) $$ HP with ⟨Hg, Ht⟩
  imodintro
  isplitl [HH]; · iexact HH
  isplitl [Hg Ht]
  · unfold ghost
    rw [bigSep_sep']
    simp only [bigSep_one]
    isplitl [Hg] <;> iassumption
  rw [show (bigSep Finset.univ fun thr : Thread nD τ => bigSep Finset.univ fun q : Fin 2 => (P t₀ t₁ x₀ x₁).x q thr) = bigSep Finset.univ fun _ => iprop(emp) from
    bigSep_congr fun _ _ => bigSep_none _, bigSep_none]
  iempintro

end Launch

end Cert.Proof.KernelTile

end
-- ==== Proof.KernelRegion.lean ====
/-
  The TensorCore call of the whole kernel, over any float values: its body run once on blocks held whole, the proof
  data of its pipeline at a valuation, and the call as a region over the TensorCore's unscoped buffers, which leaves the
  second-nearest indices of every block (`top2`) in the result's array and everything else as it was. The TensorCore
  owes the SparseCores their starts all the while; no wait of the pipeline's own is above them.
-/
module

public import proofs.«01_k».proof.Proof.KernelLaunch
public import proofs.«01_k».proof.Proof.Gen.KernelIdeal.Points
public import Idealize.ShloMosaic.Lib.VecWindow
public import Idealize.ShloMosaic.Lib.Pipeline.RegionsLoop
public import Idealize.ShloMosaic.Lib.Pipeline.Value
public import Idealize.ShloMosaic.Lib.Pipeline.Covers

@[expose] public section

noncomputable section

namespace Cert.Proof.KernelTile

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type}

local notation "𝕄" => MT nD τ sig (HIx 2) (Elt F) ℕ UU ℕ

/-! ## The body on one block -/

/-- The second-nearest indices of one block of queries: what the body stores, from the two blocks it loads. -/
def top2 [FloatOps F] (A : Vec F S1x256x3 .f32) (B : Vec F S1x3x10000 .f32) : IVec S1x256x1 32 :=
  k0_pay1 (F := F) k0_pay2 (k0_pay3 A B)

/-- The body, run on three blocks held whole. -/
theorem top2_run [FloatOps F] (c : Dev nD) (i : grid0.Coords) (M0 : Memref sig .tc .vmem S1x256x3 .f32) (h0 : M0.IsWhole)
    (M1 : Memref sig .tc .vmem S1x3x10000 .f32) (h1 : M1.IsWhole) (M2 : Memref sig .tc .vmem S1x256x1 .i32) (h2 : M2.IsWhole)
    (A : Vec F S1x256x3 .f32) (B : Vec F S1x3x10000 .f32) (Q : PUnit → sProp 𝕄) :
    iprop(owns (c : Thread nD τ) M0 fullShare A ∗ owns (c : Thread nD τ) M1 fullShare B ∗ (∃ X, owns (c : Thread nD τ) M2 fullShare X)
        ∗ (iprop(owns (c : Thread nD τ) M0 fullShare A ∗ owns (c : Thread nD τ) M1 fullShare B ∗ owns (c : Thread nD τ) M2 fullShare (top2 A B)) -∗ Q ⟨⟩))
      ⊢ wp frame (wpE (defs₀ (F := F)) 𝒱₀ (c : Thread nD τ) none) Set.univ (cc0__top2_body i M0 h0 M1 h1 M2 h2) Q := by
  rw [cc0__top2_body_eq_skeleton]; unfold cc0__top2_body_skel
  rw [k0_part1_eq_skeleton]; unfold k0_part1_skel
  unfold owns
  iintro ⟨⟨%f0, %e0, H0⟩, ⟨%f1, %e1, H1⟩, ⟨%X, %f2, -, H2⟩, Hk⟩
  subst e0 e1
  sl_exec!
  sl_step
  iapply Hk
  isplitl [H0]; · iexists f0; isplitr; swap; (· iexact H0); ipureintro; rfl
  isplitl [H1]; · iexists f1; isplitr; swap; (· iexact H1); ipureintro; rfl
  iexists _; isplitr; swap; (· iexact H2); ipureintro
  refine (View.read_writes_full M2.view _ inb_S1x256x1_S1x256x1_0_0_0 _ []).trans ?_
  exact congrArg₂ (top2 (F := F)) (View.readAt_full M0.view f0 inb_S1x256x3_S1x256x3_0_0_0) (View.readAt_full M1.view f1 inb_S1x3x10000_S1x3x10000_0_0_0)

/-! ## The proof data, at a valuation -/

variable [FloatOps F] (V : (c : Dev nD) → (b : Ref sig .tc) → Buf (Elt F) ((c : Thread nD τ).loc b))
  (bnd : ℕ)

/-- The queries' block at a point, -/
abbrev blkA (c : Dev nD) (t : Fin cfg0.N) : Vec F S1x256x3 .f32 := ((cfg0.win 0).blk t).view.read (Elt F) (V c main_v5)
/-- and the points'. -/
abbrev blkB (c : Dev nD) (t : Fin cfg0.N) : Vec F S1x3x10000 .f32 := ((cfg0.win 1).blk t).view.read (Elt F) (V c main_v10)

/-- The proof data: the three arrays at the valuation; after a point the two blocks as fetched and the result's block
    computed from them; the starts owed to the SparseCores throughout, the recorded pairs at or below a level. -/
def dat (c : Dev nD) : Dat τ (Elt F) (HIx 2) ℕ UU ℕ cfg0 c where
  A w := V c (Pipeline.arrRef spec0 w)
  after w t := match w with
    | ⟨0, _⟩ => blkA V c t
    | ⟨1, _⟩ => blkB V c t
    | ⟨2, _⟩ => top2 (blkA V c t) (blkB V c t)
  Φ _ := Pipeline.scopedRest (Ix := HIx 2) (Name := ℕ) (U := UU) (Lvl := ℕ) (Val := Elt F) spec0 c
  q _ := fullShare
  owed _ := (K (F := F)).Otc c 0
  recorded _ := {p | (K (F := F)).lev ((c : Thread nD τ), p.1) p.2 ≤ bnd}

def pdats (p : Fin 1) (c : Dev nD) : Dat τ (Elt F) (HIx 2) ℕ UU ℕ (pins (F := F) p) c :=
  match p with | ⟨0, _⟩ => dat V bnd c

theorem before_0 (c : Dev nD) (t : Fin cfg0.N) (d) : (dat V bnd c).before 0 t d = blkA V c t :=
  (Dat.before_in_eq_fetched (dat V bnd c) 0 rfl (fun _ => rfl) (fun _ _ _ => rfl) (fun _ => rfl) t d).trans rfl
theorem before_1 (c : Dev nD) (t : Fin cfg0.N) (d) : (dat V bnd c).before 1 t d = blkB V c t :=
  (Dat.before_in_eq_fetched (dat V bnd c) 1 rfl (fun _ => rfl) (fun _ _ _ => rfl) (fun _ => rfl) t d).trans rfl

/-- The library's body obligation: the three staging buffers taken apart, the body run, its blocks put back. -/
theorem body_obligation (c : Dev nD) : BodyObligation (dat V bnd c) (defs₀ (F := F)) 𝒱₀ none Set.univ := fun t => by
  rw [bigSep_W0, bigSep_W0]
  rw [show (dat V bnd c).Φ t.succ = (dat V bnd c).Φ t.castSucc from rfl,
    show (dat V bnd c).owesAt none t.succ = (dat V bnd c).owesAt none t.castSucc from rfl]
  iintro ⟨HΦ, Howes, ⟨%d0, H0⟩, ⟨%d1, H1⟩, ⟨%d2, H2⟩⟩
  rw [before_0, before_1]
  iapply (top2_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (blkA V c t) (blkB V c t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## The region over the unscoped buffers -/

theorem Otc_none (c : Dev nD) (g : GSem nD τ sig) : (K (F := F)).Otc c 0 g none = 0 := by
  by_contra h
  exact absurd ((K (F := F)).lev_of_Otc_pos (Nat.pos_of_ne_zero h)) (by show ¬(_ + 1 ≤ 0); omega)

variable (Vp : (c : Dev nD) → (b : Ref sig .tc) → Buf (Elt F) ((c : Thread nD τ).loc b))

set_option backward.isDefEq.respectTransparency.types false in
def reg (hVp_out : ∀ c, Vp c main_v11 = (dat V bnd c).arrAt 2 cfg0.N)
    (hVp_ne : ∀ c (b : Ref sig .tc), b ≠ main_v11 → Vp c b = V c b) :
    Pipeline.RegionSeg (pcfgs (F := F)) adm (pdats V bnd) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V bnd c).loose
  hwaits c := Pipeline.cellsWaits_intro _ _ none 0 c fun w s t => (K (F := F)).mayWait_none _ (Otc_none c)
  pre c := iprop(unscopedBufs c (V c) ∗ ∃ W, ⌜(K (F := F)).WBelow (T c) W bnd⌝ ∗ owes (T c) ((K (F := F)).Otc c 0) W)
  post c := iprop(unscopedBufs c (Vp c) ∗ ∃ W, ⌜(K (F := F)).WBelow (T c) W bnd⌝ ∗ owes (T c) ((K (F := F)).Otc c 0) W)
  X _ := BI.emp
  Y _ := BI.emp
  Z c := Pipeline.unscopedRest (Ix := HIx 2) (Name := ℕ) (U := UU) (Lvl := ℕ) spec0 c (V c)
  hentry c := by
    rw [Pipeline.ownSems0_none]
    have hsplit := Pipeline.arrays_of_unscopedBufs (p := 0) (pcfgs (F := F)) adm (pdats V bnd) launch0.win launch0.arr_whole c
      ((pdats V bnd 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V bnd 0 c).Φ 0 = Pipeline.scopedRest (Ix := HIx 2) (Name := ℕ) (U := UU) (Lvl := ℕ) (Val := Elt F) spec0 c from rfl]
    iintro ⟨-, -, Hr⟩; iexact Hr
  hout c := by
    rw [Pipeline.ownSems0_none, show (pdats V bnd 0 c).Φ (Fin.last _) = Pipeline.scopedRest (Ix := HIx 2) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch0.win launch0.arr_whole c
      (pdats V bnd) ((pdats V bnd 0 c).share_full fun _ => rfl) (V c) (Vp c) ((pdats V bnd 0 c).arrAt · cfg0.N)
      (fun w => by
        fin_cases w
        · exact ((pdats V bnd 0 c).arrAt_in 0 rfl _).trans (hVp_ne c main_v5 (by decide)).symm
        · exact ((pdats V bnd 0 c).arrAt_in 1 rfl _).trans (hVp_ne c main_v10 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, rfl⟩
    · exact h
    · exact Nat.zero_le _

/-! ## What the call leaves, in closed form -/

/-- Block `b` of batch `a` of the queries, and batch `a` of the points. -/
def blockA (X : S2x2560x3.Idx → F .f32) (a : Fin 2) (b : Fin 10) : Vec F S1x256x3 .f32 := fun y =>
  X (ix3 a ⟨b.val * 256 + (y 1).val, by have : (y 1).val < 256 := (y 1).isLt; omega⟩ (y 2))
def blockB (Y : S2x3x10000.Idx → F .f32) (a : Fin 2) : Vec F S1x3x10000 .f32 := fun y => Y (ix3 a (y 1) (y 2))

/-- The second-nearest index of every query of both batches. -/
def second (X : S2x2560x3.Idx → F .f32) (Y : S2x3x10000.Idx → F .f32) : S2x2560x1.Idx → BitVec 32 := fun y =>
  top2 (blockA X (y 0) ⟨(y 1).val / 256, by have : (y 1).val < 2560 := (y 1).isLt; omega⟩) (blockB Y (y 0)) (ix3 0 ⟨(y 1).val % 256, by omega⟩ 0)

theorem tr0 (i : grid0.Coords) : cc0_transform_0 i = ![(i 0).val, (i 1).val, 0] := by
  have h0 : (i 0).val < 2 := (i 0).isLt
  have h1 : (i 1).val < 10 := (i 1).isLt
  funext a
  match a with
  | 0 => exact BitVec.toNat_ofNat _ _ |>.trans (Nat.mod_eq_of_lt (by omega))
  | 1 => exact BitVec.toNat_ofNat _ _ |>.trans (Nat.mod_eq_of_lt (by omega))
  | 2 => rfl
theorem tr1 (i : grid0.Coords) : cc0_transform_1 i = ![(i 0).val, 0, 0] := by
  have h0 : (i 0).val < 2 := (i 0).isLt
  funext a
  match a with
  | 0 => exact BitVec.toNat_ofNat _ _ |>.trans (Nat.mod_eq_of_lt (by omega))
  | 1 => rfl
  | 2 => rfl
theorem tr2 (i : grid0.Coords) : cc0_transform_2 i = ![(i 0).val, (i 1).val, 0] := tr0 i

theorem emb0 (t : Fin cfg0.N) (y : S1x256x3.Idx) :
    (win0_0.rect t).emb y = ix3 (n0 := 2) (n1 := 2560) (n2 := 3) (grid0.coords t 0) ⟨(grid0.coords t 1).val * 256 + (y 1).val, by
      have : (y 1).val < 256 := (y 1).isLt; have : (grid0.coords t 1).val < 10 := (grid0.coords t 1).isLt; omega⟩ (y 2) := by
  have y0 : (y 0).val < 1 := (y 0).isLt
  funext a
  apply Fin.ext
  rw [Window.rect_emb_val win0_0 t y a]
  show cc0_transform_0 (grid0.coords t) a * S1x256x3.size a + _ = _
  rw [tr0]
  match a with
  | 0 => show (grid0.coords t 0).val * 1 + (y 0).val = (grid0.coords t 0).val; omega
  | 1 => rfl
  | 2 => show 0 * 3 + (y 2).val = (y 2).val; omega

theorem emb1 (t : Fin cfg0.N) (y : S1x3x10000.Idx) :
    (win0_1.rect t).emb y = ix3 (n0 := 2) (n1 := 3) (n2 := 10000) (grid0.coords t 0) (y 1) (y 2) := by
  have y0 : (y 0).val < 1 := (y 0).isLt
  funext a
  apply Fin.ext
  rw [Window.rect_emb_val win0_1 t y a]
  show cc0_transform_1 (grid0.coords t) a * S1x3x10000.size a + _ = _
  rw [tr1]
  match a with
  | 0 => show (grid0.coords t 0).val * 1 + (y 0).val = (grid0.coords t 0).val; omega
  | 1 => show 0 * 3 + (y 1).val = (y 1).val; omega
  | 2 => show 0 * 10000 + (y 2).val = (y 2).val; omega

theorem emb2 (t : Fin cfg0.N) (y : S1x256x1.Idx) :
    (win0_2.rect t).emb y = ix3 (n0 := 2) (n1 := 2560) (n2 := 1) (grid0.coords t 0) ⟨(grid0.coords t 1).val * 256 + (y 1).val, by
      have : (y 1).val < 256 := (y 1).isLt; have : (grid0.coords t 1).val < 10 := (grid0.coords t 1).isLt; omega⟩ (y 2) := by
  have y0 : (y 0).val < 1 := (y 0).isLt
  funext a
  apply Fin.ext
  rw [Window.rect_emb_val win0_2 t y a]
  show cc0_transform_2 (grid0.coords t) a * S1x256x1.size a + _ = _
  rw [tr2]
  match a with
  | 0 => show (grid0.coords t 0).val * 1 + (y 0).val = (grid0.coords t 0).val; omega
  | 1 => rfl
  | 2 => show 0 * 1 + (y 2).val = (y 2).val; omega

theorem blkA_eq (c : Dev nD) (t : Fin cfg0.N) : blkA V c t = blockA (V c main_v5) (grid0.coords t 0) (grid0.coords t 1) :=
  funext fun y => congrArg (V c main_v5) (emb0 t y)
theorem blkB_eq (c : Dev nD) (t : Fin cfg0.N) : blkB V c t = blockB (V c main_v10) (grid0.coords t 0) :=
  funext fun y => congrArg (V c main_v10) (emb1 t y)

/-- The result's array after the call: every query's second-nearest index. -/
theorem arrAt_second (c : Dev nD) : (dat V bnd c).arrAt 2 cfg0.N = second (F := F) (V c main_v5) (V c main_v10) := by
  refine Dat.arrAt_eq_of_cover (dat V bnd c) 2 (second (F := F) (V c main_v5) (V c main_v10)) (fun t _ => ?_) fun i => ?_
  · funext y
    refine Eq.trans (b := top2 (blkA V c t) (blkB V c t) y) rfl ?_
    refine Eq.trans ?_ (congrArg (second (F := F) (V c main_v5) (V c main_v10)) (emb2 t y)).symm
    have y0 : (y 0).val < 1 := (y 0).isLt
    have y1 : (y 1).val < 256 := (y 1).isLt
    have y2 : (y 2).val < 1 := (y 2).isLt
    unfold second
    rw [blkA_eq, blkB_eq]
    have e1 : (⟨((grid0.coords t 1).val * 256 + (y 1).val) / 256, by
      have : (grid0.coords t 1).val < 10 := (grid0.coords t 1).isLt; omega⟩ : Fin 10) = grid0.coords t 1 := Fin.ext (by show ((grid0.coords t 1).val * 256 + (y 1).val) / 256 = (grid0.coords t 1).val; omega)
    have e2 : y = ix3 (n0 := 1) (n1 := 256) (n2 := 1) 0 ⟨((grid0.coords t 1).val * 256 + (y 1).val) % 256, by omega⟩ 0 := by
      funext a
      apply Fin.ext
      match a with
      | 0 => show (y 0).val = 0; omega
      | 1 => show (y 1).val = ((grid0.coords t 1).val * 256 + (y 1).val) % 256; omega
      | 2 => show (y 2).val = 0; omega
    show top2 _ _ y = top2 (blockA _ _ ⟨((grid0.coords t 1).val * 256 + (y 1).val) / 256, _⟩) _ _
    rw [e1]
    exact congrArg _ e2
  · have i1 : (i 1).val < 2560 := (i 1).isLt
    have i2 : (i 2).val < 1 := (i 2).isLt
    obtain ⟨t, ht⟩ := Pipeline.Grid.coords_surjective grid0 (fun | 0 => i 0 | 1 => (⟨(i 1).val / 256, by show _ < 10; omega⟩ : Fin 10) | ⟨_ + 2, h⟩ => absurd h (Nat.not_lt.2 (Nat.le_add_left _ _)))
    refine ⟨t, flush0_2 t, ?_⟩
    have e := emb2 t (ix3 (n0 := 1) (n1 := 256) (n2 := 1) 0 ⟨(i 1).val % 256, by omega⟩ 0)
    have : i = (win0_2.rect t).emb (ix3 (n0 := 1) (n1 := 256) (n2 := 1) 0 ⟨(i 1).val % 256, by omega⟩ 0) := by
      rw [e]
      funext a
      apply Fin.ext
      match a with
      | 0 => exact (congrArg Fin.val (congrFun ht 0)).symm
      | 1 =>
        have := congrArg Fin.val (congrFun ht 1)
        have h1 : (grid0.coords t 1).val = (i 1).val / 256 := this
        show (i 1).val = (grid0.coords t 1).val * 256 + (i 1).val % 256
        omega
      | 2 => show (i 2).val = 0; omega
    rw [this]
    exact ((cfg0.win 2).blk t).view.emb_mem_set _

end Cert.Proof.KernelTile

end
-- ==== Proof.KernelRun.lean ====
/-
  The run of the whole kernel over any float values: @main's lines, the TensorCore's call, the two gathers, over the
  TensorCore's arrays held whole at one valuation; and from the launch the whole mesh's run, given that every word of
  both index tables names a row.
-/
module

public import proofs.«01_k».proof.Proof.KernelRegion

@[expose] public section

noncomputable section

namespace Cert.Proof.KernelTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (after seq launchContents held)

variable {F : FTy → Type}

local notation "𝕄" => MT nD τ sig (HIx 2) (Elt F) ℕ UU ℕ

/-! ## The TensorCore's arrays as one valuation -/

/-- A reference of the TensorCore among the device's. -/
abbrev dr (b : Ref sig .tc) : DevRef τ sig := Proc.devRef .tc b
/-- The arrays that are no kernel's scratch. -/
def arrs : Finset (DevRef τ sig) :=
  (Finset.univ.filter fun b : Ref sig .tc => ¬ b.isScoped).map ⟨Proc.devRef (τ := τ) .tc, Proc.devRef_injective .tc⟩

theorem mem_arrs {b : Ref sig .tc} (h : b.isScoped = false) : dr b ∈ arrs :=
  Finset.mem_map.mpr ⟨b, Finset.mem_filter.mpr ⟨Finset.mem_univ _, by rw [h]; exact Bool.false_ne_true⟩, rfl⟩

theorem unscoped_held (d : Dev nD) (V : Valuation τ sig (Elt F)) :
    (unscopedBufs d (fun b => V (dr b)) : sProp 𝕄) = held (SparseCore.T d) arrs V := by
  unfold unscopedBufs StableHlo.held arrs
  rw [bigSep_map]; rfl

/-- Three arrays out of the whole. -/
theorem held_three (d : Dev nD) (V : Valuation τ sig (Elt F)) (a b c : Ref sig .tc) (ha : a.isScoped = false) (hb : b.isScoped = false)
    (hc : c.isScoped = false) (hab : a ≠ b) (hac : a ≠ c) (hbc : b ≠ c) :
    (held (SparseCore.T d) arrs V : sProp 𝕄)
      = iprop(((SparseCore.T d).loc a ↦{fullShare} V (dr a)) ∗ ((SparseCore.T d).loc b ↦{fullShare} V (dr b)) ∗ ((SparseCore.T d).loc c ↦{fullShare} V (dr c))
          ∗ held (SparseCore.T d) (((arrs.erase (dr a)).erase (dr b)).erase (dr c)) V) := by
  have n {x y : Ref sig .tc} (h : x ≠ y) : dr y ≠ dr x := fun e => h (Proc.devRef_injective .tc e).symm
  unfold StableHlo.held
  rw [SparseCore.bigSep_erase' (mem_arrs ha), SparseCore.bigSep_erase' (Finset.mem_erase.mpr ⟨n hab, mem_arrs hb⟩),
    SparseCore.bigSep_erase' (Finset.mem_erase.mpr ⟨n hbc, Finset.mem_erase.mpr ⟨n hac, mem_arrs hc⟩⟩)]

/-- Three arrays back in, the third at new contents. -/
theorem held_put (d : Dev nD) (V : Valuation τ sig (Elt F)) (a b c : Ref sig .tc) (ha : a.isScoped = false) (hb : b.isScoped = false)
    (hc : c.isScoped = false) (hab : a ≠ b) (hac : a ≠ c) (hbc : b ≠ c) (g : (dr c).ty.Contents (Elt F)) :
    (held (SparseCore.T d) arrs (Function.update V (dr c) g) : sProp 𝕄)
      = iprop(((SparseCore.T d).loc a ↦{fullShare} V (dr a)) ∗ ((SparseCore.T d).loc b ↦{fullShare} V (dr b)) ∗ ((SparseCore.T d).loc c ↦{fullShare} g)
          ∗ held (SparseCore.T d) (((arrs.erase (dr a)).erase (dr b)).erase (dr c)) V) := by
  have n {x y : Ref sig .tc} (h : x ≠ y) : dr x ≠ dr y := fun e => h (Proc.devRef_injective .tc e)
  rw [held_three d (Function.update V (dr c) g) a b c ha hb hc hab hac hbc, Function.update_of_ne (n hac), Function.update_of_ne (n hbc), Function.update_self,
    StableHlo.held_congr (SparseCore.T d) (S := ((arrs.erase (dr a)).erase (dr b)).erase (dr c)) (V := Function.update V (dr c) g) (V' := V)
      fun r hr => Function.update_of_ne (Finset.ne_of_mem_erase hr) _ _]

variable [FloatOps F]

/-- Call 0 over the arrays held whole: it takes the table, the index table and the output, and brings them back with the
    output at the gathered rows. -/
theorem held_call0 (t₀ t₁ : Dev nD → S10000x128.Idx → Elt F .f32) (x₀ x₁ : Dev nD → S32x80.Idx → Elt F .i32) (d : Dev nD) (V : Valuation τ sig (Elt F))
    (ht : t₀ d = V (dr main_arg0)) (hx : x₀ d = V (dr main_v14)) :
    (held (SparseCore.T d) arrs V : sProp 𝕄)
      ⊢ iprop((bigSep Finset.univ fun c : Fin ((K (F := F)).nCore 0) => (P t₀ t₁ x₀ x₁).st 0 d c)
          ∗ ((bigSep Finset.univ fun c : Fin ((K (F := F)).nCore 0) => (P t₀ t₁ x₀ x₁).dn 0 d c)
            -∗ held (SparseCore.T d) arrs (Function.update V (dr main_v15) (gathered (t₀ d) (x₀ d))))) := by
  rw [held_three d V main_arg0 main_v14 main_v15 rfl rfl rfl (by decide) (by decide) (by decide),
    held_put d V main_arg0 main_v14 main_v15 rfl rfl rfl (by decide) (by decide) (by decide)]
  iintro ⟨Hx, Hi, Ho, Hrest⟩
  ihave H := (call_split0 t₀ t₁ x₀ x₁ d (V (dr main_v15))) $$ [Hx Hi Ho]
  · rw [ht, hx]
    isplitl [Hx]; · iexact Hx
    isplitl [Hi] <;> iassumption
  icases H with ⟨Hst, Hback⟩
  isplitl [Hst]; · iexact Hst
  iintro Hdn
  ihave H := Hback $$ Hdn
  icases H with ⟨Hx, Hi, Ho⟩
  rw [← ht, ← hx]
  isplitl [Hx]; · iexact Hx
  isplitl [Hi]; · iexact Hi
  isplitl [Ho]; · iexact Ho
  iexact Hrest

/-- Call 1 over the arrays held whole: it takes the table, the index table and the output, and brings them back with the
    output at the gathered rows. -/
theorem held_call1 (t₀ t₁ : Dev nD → S10000x128.Idx → Elt F .f32) (x₀ x₁ : Dev nD → S32x80.Idx → Elt F .i32) (d : Dev nD) (V : Valuation τ sig (Elt F))
    (ht : t₁ d = V (dr main_arg1)) (hx : x₁ d = V (dr main_v18)) :
    (held (SparseCore.T d) arrs V : sProp 𝕄)
      ⊢ iprop((bigSep Finset.univ fun c : Fin ((K (F := F)).nCore 1) => (P t₀ t₁ x₀ x₁).st 1 d c)
          ∗ ((bigSep Finset.univ fun c : Fin ((K (F := F)).nCore 1) => (P t₀ t₁ x₀ x₁).dn 1 d c)
            -∗ held (SparseCore.T d) arrs (Function.update V (dr main_v19) (gathered (t₁ d) (x₁ d))))) := by
  rw [held_three d V main_arg1 main_v18 main_v19 rfl rfl rfl (by decide) (by decide) (by decide),
    held_put d V main_arg1 main_v18 main_v19 rfl rfl rfl (by decide) (by decide) (by decide)]
  iintro ⟨Hx, Hi, Ho, Hrest⟩
  ihave H := (call_split1 t₀ t₁ x₀ x₁ d (V (dr main_v19))) $$ [Hx Hi Ho]
  · rw [ht, hx]
    isplitl [Hx]; · iexact Hx
    isplitl [Hi] <;> iassumption
  icases H with ⟨Hst, Hback⟩
  isplitl [Hst]; · iexact Hst
  iintro Hdn
  ihave H := Hback $$ Hdn
  icases H with ⟨Hx, Hi, Ho⟩
  rw [← ht, ← hx]
  isplitl [Hx]; · iexact Hx
  isplitl [Hi]; · iexact Hi
  isplitl [Ho]; · iexact Ho
  iexact Hrest

/-! ## @main's lines -/

/-- Before the TensorCore's call, after it, between the gathers, after them. -/
abbrev opsT : List (HloOp τ sig (Elt F)) :=
  [StableHlo.nullary main_cst (constant S_ .f32 0x00000000#32),
   StableHlo.unary main_cst main_v0 (broadcastInDim S60x3 ![] bcast_S_S60x3 : (⟨S_, .f32⟩ : BufTy).Contents (Elt F) → (⟨S60x3, .f32⟩ : BufTy).Contents (Elt F)),
   StableHlo.binary main_arg4 main_v0 main_v1 ((fun a b => concatenate S2560x3 0 [⟨S2500x3, a⟩, ⟨S60x3, b⟩] concatenates_S2500x3_S60x3_S2560x3_d0) : (⟨S2500x3, .f32⟩ : BufTy).Contents (Elt F) → (⟨S60x3, .f32⟩ : BufTy).Contents (Elt F) → (⟨S2560x3, .f32⟩ : BufTy).Contents (Elt F)),
   StableHlo.binary main_arg5 main_v0 main_v2 ((fun a b => concatenate S2560x3 0 [⟨S2500x3, a⟩, ⟨S60x3, b⟩] concatenates_S2500x3_S60x3_S2560x3_d0) : (⟨S2500x3, .f32⟩ : BufTy).Contents (Elt F) → (⟨S60x3, .f32⟩ : BufTy).Contents (Elt F) → (⟨S2560x3, .f32⟩ : BufTy).Contents (Elt F)),
   StableHlo.unary main_v1 main_v3 (broadcastInDim S1x2560x3 ![1, 2] bcast_S2560x3_S1x2560x3_1_2 : (⟨S2560x3, .f32⟩ : BufTy).Contents (Elt F) → (⟨S1x2560x3, .f32⟩ : BufTy).Contents (Elt F)),
   StableHlo.unary main_v2 main_v4 (broadcastInDim S1x2560x3 ![1, 2] bcast_S2560x3_S1x2560x3_1_2 : (⟨S2560x3, .f32⟩ : BufTy).Contents (Elt F) → (⟨S1x2560x3, .f32⟩ : BufTy).Contents (Elt F)),
   StableHlo.binary main_v3 main_v4 main_v5 ((fun a b => concatenate S2x2560x3 0 [⟨S1x2560x3, a⟩, ⟨S1x2560x3, b⟩] concatenates_S1x2560x3_S1x2560x3_S2x2560x3_d0) : (⟨S1x2560x3, .f32⟩ : BufTy).Contents (Elt F) → (⟨S1x2560x3, .f32⟩ : BufTy).Contents (Elt F) → (⟨S2x2560x3, .f32⟩ : BufTy).Contents (Elt F)),
   StableHlo.unary main_arg2 main_v6 ((transpose S3x10000 [1, 0] · transposes_S10000x3_S3x10000_1_0) : (⟨S10000x3, .f32⟩ : BufTy).Contents (Elt F) → (⟨S3x10000, .f32⟩ : BufTy).Contents (Elt F)),
   StableHlo.unary main_arg3 main_v7 ((transpose S3x10000 [1, 0] · transposes_S10000x3_S3x10000_1_0) : (⟨S10000x3, .f32⟩ : BufTy).Contents (Elt F) → (⟨S3x10000, .f32⟩ : BufTy).Contents (Elt F)),
   StableHlo.unary main_v6 main_v8 (broadcastInDim S1x3x10000 ![1, 2] bcast_S3x10000_S1x3x10000_1_2 : (⟨S3x10000, .f32⟩ : BufTy).Contents (Elt F) → (⟨S1x3x10000, .f32⟩ : BufTy).Contents (Elt F)),
   StableHlo.unary main_v7 main_v9 (broadcastInDim S1x3x10000 ![1, 2] bcast_S3x10000_S1x3x10000_1_2 : (⟨S3x10000, .f32⟩ : BufTy).Contents (Elt F) → (⟨S1x3x10000, .f32⟩ : BufTy).Contents (Elt F)),
   StableHlo.binary main_v8 main_v9 main_v10 ((fun a b => concatenate S2x3x10000 0 [⟨S1x3x10000, a⟩, ⟨S1x3x10000, b⟩] concatenates_S1x3x10000_S1x3x10000_S2x3x10000_d0) : (⟨S1x3x10000, .f32⟩ : BufTy).Contents (Elt F) → (⟨S1x3x10000, .f32⟩ : BufTy).Contents (Elt F) → (⟨S2x3x10000, .f32⟩ : BufTy).Contents (Elt F))]
abbrev opsA : List (HloOp τ sig (Elt F)) :=
  [StableHlo.unary main_v11 main_v12 ((extractStridedSlice S1x2560x1 ![0, 0, 0] · slices_S2x2560x1_S1x2560x1_0_0_0) : (⟨S2x2560x1, .i32⟩ : BufTy).Contents (Elt F) → (⟨S1x2560x1, .i32⟩ : BufTy).Contents (Elt F)),
   StableHlo.reshape main_v12 main_v13 (rfl : (.i32 : EltTy) = .i32) shapeCasts_S1x2560x1_S2560x1,
   StableHlo.reshape main_v13 main_v14 (rfl : (.i32 : EltTy) = .i32) shapeCasts_S2560x1_S32x80]
abbrev opsB : List (HloOp τ sig (Elt F)) :=
  [StableHlo.unary main_v11 main_v16 ((extractStridedSlice S1x2560x1 ![1, 0, 0] · slices_S2x2560x1_S1x2560x1_1_0_0) : (⟨S2x2560x1, .i32⟩ : BufTy).Contents (Elt F) → (⟨S1x2560x1, .i32⟩ : BufTy).Contents (Elt F)),
   StableHlo.reshape main_v16 main_v17 (rfl : (.i32 : EltTy) = .i32) shapeCasts_S1x2560x1_S2560x1,
   StableHlo.reshape main_v17 main_v18 (rfl : (.i32 : EltTy) = .i32) shapeCasts_S2560x1_S32x80]
abbrev opsC : List (HloOp τ sig (Elt F)) :=
  [StableHlo.unary main_v15 main_v20 ((extractStridedSlice S2500x128 ![0, 0] · slices_S2560x128_S2500x128_0_0) : (⟨S2560x128, .f32⟩ : BufTy).Contents (Elt F) → (⟨S2500x128, .f32⟩ : BufTy).Contents (Elt F)),
   StableHlo.unary main_v19 main_v21 ((extractStridedSlice S2500x128 ![0, 0] · slices_S2560x128_S2500x128_0_0) : (⟨S2560x128, .f32⟩ : BufTy).Contents (Elt F) → (⟨S2500x128, .f32⟩ : BufTy).Contents (Elt F))]

/-- The call's statement in the pipeline's own signature. -/
def callProg : Prog (TpuEff nD τ sig (Elt F) (ΛP (F := F)) .tc) PUnit.{1} := .op (.customCall (Pipeline.entry 0) ()) fun _ => .ret ⟨⟩

theorem lift_callProg : SparseCore.liftProg (Q := 2) (callProg (F := F)) = Prog.lift (.customCall (SparseCore.inner (Pipeline.entry 0)) ()) := rfl

theorem main_lines (d : Dev nD) :
    main (F := F) d = (seq opsT >>= fun _ => SparseCore.liftProg (Q := 2) (callProg (F := F)) >>= fun _ => seq opsA >>= fun _ => (K (F := F)).run d 0 >>= fun _ => seq opsB >>= fun _ => (K (F := F)).run d 1 >>= fun _ => seq opsC >>= fun u => pure u) := by
  rw [lift_callProg]
  simp only [main, seq, bind_assoc, pure_bind]

theorem two_sub {b b' : Ref sig .tc} (h : b.isScoped = false) (h' : b'.isScoped = false) : ({dr b, dr b'} : Finset (DevRef τ sig)) ⊆ arrs :=
  Finset.insert_subset (mem_arrs h) (Finset.singleton_subset_iff.mpr (mem_arrs h'))

theorem one_sub {b : Ref sig .tc} (h : b.isScoped = false) : ({dr b} : Finset (DevRef τ sig)) ⊆ arrs :=
  Finset.singleton_subset_iff.mpr (mem_arrs h)
theorem three_sub {b b' b'' : Ref sig .tc} (h : b.isScoped = false) (h' : b'.isScoped = false) (h'' : b''.isScoped = false) :
    ({dr b, dr b', dr b''} : Finset (DevRef τ sig)) ⊆ arrs :=
  Finset.insert_subset (mem_arrs h) (two_sub h' h'')

theorem subT : ∀ op ∈ opsT (F := F), op.bufs ⊆ arrs := by
  intro op h
  rcases List.mem_cons.mp h with rfl | h; · exact one_sub (b := main_cst) rfl
  rcases List.mem_cons.mp h with rfl | h; · exact two_sub (b := main_cst) (b' := main_v0) rfl rfl
  rcases List.mem_cons.mp h with rfl | h; · exact three_sub (b := main_arg4) (b' := main_v0) (b'' := main_v1) rfl rfl rfl
  rcases List.mem_cons.mp h with rfl | h; · exact three_sub (b := main_arg5) (b' := main_v0) (b'' := main_v2) rfl rfl rfl
  rcases List.mem_cons.mp h with rfl | h; · exact two_sub (b := main_v1) (b' := main_v3) rfl rfl
  rcases List.mem_cons.mp h with rfl | h; · exact two_sub (b := main_v2) (b' := main_v4) rfl rfl
  rcases List.mem_cons.mp h with rfl | h; · exact three_sub (b := main_v3) (b' := main_v4) (b'' := main_v5) rfl rfl rfl
  rcases List.mem_cons.mp h with rfl | h; · exact two_sub (b := main_arg2) (b' := main_v6) rfl rfl
  rcases List.mem_cons.mp h with rfl | h; · exact two_sub (b := main_arg3) (b' := main_v7) rfl rfl
  rcases List.mem_cons.mp h with rfl | h; · exact two_sub (b := main_v6) (b' := main_v8) rfl rfl
  rcases List.mem_cons.mp h with rfl | h; · exact two_sub (b := main_v7) (b' := main_v9) rfl rfl
  rcases List.mem_cons.mp h with rfl | h; · exact three_sub (b := main_v8) (b' := main_v9) (b'' := main_v10) rfl rfl rfl
  cases h
theorem freshT : ∀ op ∈ opsT (F := F), op.fresh = ∅ := by
  intro op h
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  rcases List.mem_cons.mp h with rfl | h; · rfl
  cases h
theorem subA : ∀ op ∈ opsA (F := F), op.bufs ⊆ arrs := by
  intro op h
  rcases List.mem_cons.mp h with rfl | h; · exact two_sub (b := main_v11) (b' := main_v12) rfl rfl
  rcases List.mem_cons.mp h with rfl | h; · exact two_sub (b := main_v12) (b' := main_v13) rfl rfl
  rcases List.mem_cons.mp h with rfl | h; · exact two_sub (b := main_v13) (b' := main_v14) rfl rfl
  cases h
theorem freshA : ∀ op ∈ opsA (F := F), op.fresh = ∅ := by
  intro op h
  rcases List.mem_cons.mp h with rfl | h; · rfl
  rcases List.mem_cons.mp h with rfl | h; · rfl
  rcases List.mem_cons.mp h with rfl | h; · rfl
  cases h
theorem subB : ∀ op ∈ opsB (F := F), op.bufs ⊆ arrs := by
  intro op h
  rcases List.mem_cons.mp h with rfl | h; · exact two_sub (b := main_v11) (b' := main_v16) rfl rfl
  rcases List.mem_cons.mp h with rfl | h; · exact two_sub (b := main_v16) (b' := main_v17) rfl rfl
  rcases List.mem_cons.mp h with rfl | h; · exact two_sub (b := main_v17) (b' := main_v18) rfl rfl
  cases h
theorem freshB : ∀ op ∈ opsB (F := F), op.fresh = ∅ := by
  intro op h
  rcases List.mem_cons.mp h with rfl | h; · rfl
  rcases List.mem_cons.mp h with rfl | h; · rfl
  rcases List.mem_cons.mp h with rfl | h; · rfl
  cases h
theorem subC : ∀ op ∈ opsC (F := F), op.bufs ⊆ arrs := by
  intro op h
  rcases List.mem_cons.mp h with rfl | h; · exact two_sub (b := main_v15) (b' := main_v20) rfl rfl
  rcases List.mem_cons.mp h with rfl | h; · exact two_sub (b := main_v19) (b' := main_v21) rfl rfl
  cases h
theorem freshC : ∀ op ∈ opsC (F := F), op.fresh = ∅ := by
  intro op h
  rcases List.mem_cons.mp h with rfl | h; · rfl
  rcases List.mem_cons.mp h with rfl | h; · rfl
  cases h

/-! ## The TensorCore's call over the arrays held whole -/

/-- A valuation read at the TensorCore's references, on any device. -/
def vof (V : Valuation τ sig (Elt F)) (c : Dev nD) (b : Ref sig .tc) : Buf (Elt F) ((c.tc : Thread nD τ).loc b) := V (dr b)

/-- The arrays once the call's result is in. -/
def upd (V : Valuation τ sig (Elt F)) : Valuation τ sig (Elt F) :=
  Function.update V (dr main_v11) (second (F := F) (V (dr main_v5)) (V (dr main_v10)))

theorem upd_self (V : Valuation τ sig (Elt F)) : upd V (dr main_v11) = second (F := F) (V (dr main_v5)) (V (dr main_v10)) :=
  Function.update_self _ _ _

/-- The call as a region, from any valuation of the arrays. -/
def regAt (V : Valuation τ sig (Elt F)) (bnd : ℕ) :
    Pipeline.RegionSeg (pcfgs (F := F)) adm (pdats (vof V) bnd) none defs₀ 𝒱₀ (K (F := F)).L (K (F := F)).lev 0 :=
  reg (vof V) bnd (vof (upd V)) (fun c => (upd_self V).trans (arrAt_second (vof V) bnd c).symm)
    (fun _ _ hb => Function.update_of_ne (fun e => hb (Proc.devRef_injective .tc e)) _ _)

theorem regAt_pre (V : Valuation τ sig (Elt F)) (bnd : ℕ) (d : Dev nD) : (regAt V bnd).pre d
    = iprop(held (SparseCore.T d) arrs V ∗ ∃ W, ⌜(K (F := F)).WBelow (SparseCore.T d) W bnd⌝ ∗ owes (SparseCore.T d) ((K (F := F)).Otc d 0) W) := by
  rw [← unscoped_held]; rfl
theorem regAt_post (V : Valuation τ sig (Elt F)) (bnd : ℕ) (d : Dev nD) : (regAt V bnd).post d
    = iprop(held (SparseCore.T d) arrs (upd V) ∗ ∃ W, ⌜(K (F := F)).WBelow (SparseCore.T d) W bnd⌝ ∗ owes (SparseCore.T d) ((K (F := F)).Otc d 0) W) := by
  rw [← unscoped_held]; rfl

/-- The call of the pipeline from @main: the arrays held whole at any valuation, the starts owed, the call's ghost state;
    back with the result's array at every query's second-nearest index. -/
theorem region_call [∀ e, Nonempty (Elt F e)] (d : Dev nD) (V : Valuation τ sig (Elt F)) (bnd : ℕ) (Q : PUnit.{1} → sProp 𝕄) :
    iprop((iprop(boundary (SparseCore.T d) ∗ held (SparseCore.T d) arrs (upd V)
              ∗ ∃ W, ⌜(K (F := F)).WBelow (SparseCore.T d) W bnd⌝ ∗ owes (SparseCore.T d) ((K (F := F)).Otc d 0) W) -∗ Q ⟨⟩)
        ∗ boundary (SparseCore.T d) ∗ held (SparseCore.T d) arrs V
        ∗ (∃ W, ⌜(K (F := F)).WBelow (SparseCore.T d) W bnd⌝ ∗ owes (SparseCore.T d) ((K (F := F)).Otc d 0) W)
        ∗ levAts (K (F := F)).L (K (F := F)).lev ∗ ghost (F := F) d)
      ⊢ wp frame (wpE ((K (F := F)).defs (D (F := F))) 𝒱 (SparseCore.T d) none) Set.univ (SparseCore.liftProg (Q := 2) (callProg (F := F))) Q := by
  have hreg := Pipeline.RegionSeg.wp (pcfgs (F := F)) adm (pdats (vof V) bnd) none pins_inj EP defs₀ 𝒱₀ (K (F := F)).L (K (F := F)).lev
    (regAt V bnd) d none (fun _ h => by cases h) (fun _ => .ret (⟨⟩ : PUnit.{1})) Q
  rw [regAt_pre, regAt_post] at hreg
  unfold ghost
  iintro ⟨Hk, Hb, Hh, HO, #Hl, Hg, Ht⟩
  iapply ((K (F := F)).wp_liftProg (D (F := F)) 𝒱 (SparseCore.T d) Set.univ none (callProg (F := F)) Q)
  iapply hreg
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitr; · iexact Hl
  isplitl [Hg] <;> iassumption

/-- The TensorCore's state before the first call, what it owes apart. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄)
    = iprop((∃ W, ⌜(K (F := F)).WBelow (SparseCore.T d) W (8 * SparseCore.Cfg.Blocks.fst 2 2 0)⌝ ∗ owes (SparseCore.T d) ((K (F := F)).Otc d 0) W) ∗ tcRest (F := F) d) := rfl

section Run

variable (m : (ℓ : Loc nD τ sig) → Buf (Elt F) ℓ) (ρ : Dev nD → PrngReg)

/-- The arrays at each call, after it, and at the end. -/
def Vt (d : Dev nD) : Valuation τ sig (Elt F) := after opsT (launchContents m d)
def Vn (d : Dev nD) : Valuation τ sig (Elt F) := upd (Vt m d)
def Va (d : Dev nD) : Valuation τ sig (Elt F) := after opsA (Vn m d)
def tb₀ (d : Dev nD) : S10000x128.Idx → Elt F .f32 := Va m d (dr main_arg0)
def ix₀ (d : Dev nD) : S32x80.Idx → Elt F .i32 := Va m d (dr main_v14)
def Vb (d : Dev nD) : Valuation τ sig (Elt F) := after opsB (Function.update (Va m d) (dr main_v15) (gathered (tb₀ m d) (ix₀ m d)))
def tb₁ (d : Dev nD) : S10000x128.Idx → Elt F .f32 := Vb m d (dr main_arg1)
def ix₁ (d : Dev nD) : S32x80.Idx → Elt F .i32 := Vb m d (dr main_v18)
def Vc (d : Dev nD) : Valuation τ sig (Elt F) := after opsC (Function.update (Vb m d) (dr main_v19) (gathered (tb₁ m d) (ix₁ m d)))

abbrev PP : (K (F := F)).Pay (nD := nD) (Val := Elt F) (Name := ℕ) (U := UU) := P (tb₀ m) (tb₁ m) (ix₀ m) (ix₁ m)
abbrev FIN (d : Dev nD) : sProp 𝕄 := held (SparseCore.T d) arrs (Vc m d)

/-- @main on device `d`'s TensorCore: the lines and the two calls, over the arrays held whole. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrs (launchContents m d) from unscoped_held d (launchContents m d),
    main_lines, tcSt_zero]
  iintro ⟨#Hctx, Hst, ⟨Hb, Hheld, Hts, -⟩, Hghost⟩
  iapply (StableHlo.wp_seq 𝒱 none Set.univ d arrs _ opsT subT freshT (launchContents m d)) $$ [Hb Hheld]
  · isplitl [Hb]; · iexact Hb
    iexact Hheld
  iintro ⟨Hb, Hheld⟩
  rw [wp_bind]
  icases Hst with ⟨HO, Hst⟩
  ihave #Hl := ((K (F := F)).ctx_levAts (EH := EH) (P := PP m) κ) $$ Hctx
  iapply (region_call d (Vt m d) (8 * SparseCore.Cfg.Blocks.fst 2 2 0) _)
  isplitr [Hb Hheld HO Hghost]; swap
  · isplitl [Hb]; · iexact Hb
    isplitl [Hheld]; · iexact Hheld
    isplitl [HO]; · iexact HO
    isplitr; · iexact Hl
    iexact Hghost
  iintro ⟨Hb, Hheld, HO⟩
  ihave Hst := (show iprop((∃ W, ⌜(K (F := F)).WBelow (SparseCore.T d) W (8 * SparseCore.Cfg.Blocks.fst 2 2 0)⌝ ∗ owes (SparseCore.T d) ((K (F := F)).Otc d 0) W) ∗ tcRest (F := F) d)
    ⊢ ((K (F := F)).tcSt EH d 0 : sProp 𝕄) from by rw [tcSt_zero]) $$ [HO Hst]
  · isplitl [HO] <;> iassumption
  iapply (StableHlo.wp_seq 𝒱 none Set.univ d arrs _ opsA subA freshA (Vn m d)) $$ [Hb Hheld]
  · isplitl [Hb]; · iexact Hb
    iexact Hheld
  iintro ⟨Hb, Hheld⟩
  ihave H := (show (held (d.tc : Thread nD τ) arrs (after opsA (Vn m d)) : sProp 𝕄) ⊢ _ from held_call0 (tb₀ m) (tb₁ m) (ix₀ m) (ix₁ m) d (Va m d) rfl rfl) $$ Hheld
  icases H with ⟨Hpay, Hback⟩
  rw [wp_bind]
  iapply ((K (F := F)).wp_run (D (F := F)) 𝒱 (EH := EH) (P := PP m) κ d 0) $$ [Hst Hpay Hback Hb Hts]
  isplitr; · iexact Hctx
  isplitl [Hst]; · iexact Hst
  isplitl [Hpay]; · iexact Hpay
  iintro ⟨Hst, Hdn⟩
  ihave Hheld := Hback $$ Hdn
  iapply (StableHlo.wp_seq 𝒱 none Set.univ d arrs _ opsB subB freshB _) $$ [Hb Hheld]
  · isplitl [Hb]; · iexact Hb
    iexact Hheld
  iintro ⟨Hb, Hheld⟩
  ihave H := (show (held (d.tc : Thread nD τ) arrs (after opsB (Function.update (Va m d) (dr main_v15) (gathered (tb₀ m d) (ix₀ m d)))) : sProp 𝕄) ⊢ _ from
    held_call1 (tb₀ m) (tb₁ m) (ix₀ m) (ix₁ m) d (Vb m d) rfl rfl) $$ Hheld
  icases H with ⟨Hpay, Hback⟩
  rw [wp_bind]
  iapply ((K (F := F)).wp_run (D (F := F)) 𝒱 (EH := EH) (P := PP m) κ d 1) $$ [Hst Hpay Hback Hb Hts]
  isplitr; · iexact Hctx
  isplitl [Hst]; · iexact Hst
  isplitl [Hpay]; · iexact Hpay
  iintro ⟨Hst, Hdn⟩
  ihave Hheld := Hback $$ Hdn
  iapply (StableHlo.wp_seq 𝒱 none Set.univ d arrs _ opsC subC freshC _) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What the claims read of device `d`'s final state: every array of the TensorCore at the last valuation. -/
def fq (d : Dev nD) (s' : Phys nD τ sig (Elt F)) : Prop := ∀ b : Ref sig .tc, b.isScoped = false → s'.mem.mem ((SparseCore.T d).loc b) = Vc m d (dr b)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) arrs) $$ [HSI H]
  · isplitl [HSI]; · iexact HSI
    iexact H
  ipureintro
  exact fun b hb => h _ (mem_arrs hb)

def QC : PUnit × MemSt nD τ sig (Elt F) → Prop := fun r =>
  (∀ (c : Dev nD) (b : Ref sig .tc), b.isScoped = false → r.2.mem ((SparseCore.T c).loc b) = Vc m c (dr b)) ∧ r.2.sem = fun _ => 0

/-- The run, when every word of both index tables names a row. -/
theorem run_main [∀ e, Nonempty (Elt F e)] (h₀ : ∀ d y, (ix₀ m d y : BitVec 32).toNat < 10000) (h₁ : ∀ d y, (ix₁ m d y : BitVec 32).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 _ _ _ _ h₀ | 1 => tileObl1 _ _ _ _ h₁)
    (fun q _ => match q with | 0 => SparseCore.Cfg.VecSplit.of_plain (vecSplit0 _ _ _ _) | 1 => SparseCore.Cfg.VecSplit.of_plain (vecSplit1 _ _ _ _))
    m ρ main (fun d => ghost d) (FIN m) (u₀ (F := F)) (sep_elim_left.trans (hu₀ _ _ _ _)) (hmain m ρ) (fq m) (hfin m) (QC m) (fun _ h hz => ⟨h, hz⟩)

end Run

end Cert.Proof.KernelTile

end
-- ==== Proof.KernelValue.lean ====
module

public import proofs.«01_k».proof.Proof.KernelRun
public import Idealize.ShloMosaic.Lib.Pointwise

@[expose] public section

/-! # The whole kernel: its arrays read back

What each buffer that matters holds at the end of the kernel's run, as a function of the arguments: the two
index tables are halves of the array the TensorCore call writes, and each result is the rows of its table that
half of that array names. -/

noncomputable section

namespace Cert.Proof.KernelTile

open Cert.KernelIdeal Cert.KernelIdeal.Gen

open Idealize.ShloMosaic
open Idealize.ShloMosaic.StableHlo (after launchContents)
open Idealize.ShloMosaic.Tactic

variable {F : FTy → Type} [FloatOps F]
variable (m : (ℓ : Loc nD τ sig) → Buf (Elt F) ℓ)

/-- The array of second-nearest indices, as the TensorCore call leaves it. -/
abbrev idxA (d : Dev nD) : S2x2560x1.Idx → BitVec 32 :=
  second (F := F) (Vt m d (dr main_v5)) (Vt m d (dr main_v10))

/-- The host's slice and reshapes: word `(i, j)` of an index table is word `80 i + j` of its half of the index array. -/
def words (x : S2x2560x1.Idx → BitVec 32) (q : Fin 2) (y : S32x80.Idx) : BitVec 32 :=
  x (ix3 q ⟨(y 0).val * 80 + (y 1).val, by have : (y 0).val < 32 := (y 0).isLt; have : (y 1).val < 80 := (y 1).isLt; omega⟩ 0)

/-- The rows of one result. -/
def rows (tab : S10000x128.Idx → Elt F .f32) (x : S2x2560x1.Idx → BitVec 32) (q : Fin 2) (y : S2500x128.Idx) : Elt F .f32 :=
  rowOf tab (x (ix3 q ⟨(y 0).val, by have : (y 0).val < 2500 := (y 0).isLt; omega⟩ 0)) (y 1)

theorem rows_of (tab : S10000x128.Idx → Elt F .f32) (x : S2x2560x1.Idx → BitVec 32) (q : Fin 2) :
    extractStridedSlice S2500x128 ![0, 0] (gathered tab (words x q)) slices_S2560x128_S2500x128_0_0 = rows tab x q := by
  funext y
  unfold gathered words rows
  pointwise
  congr 4
  exact Nat.div_add_mod' _ _

/-! ## Before the TensorCore call -/

theorem Vt_arg0 (d : Dev nD) : Vt m d (dr main_arg0) = m ((SparseCore.T d).loc main_arg0) := by
  unfold Vt; after_results
theorem Vt_arg1 (d : Dev nD) : Vt m d (dr main_arg1) = m ((SparseCore.T d).loc main_arg1) := by
  unfold Vt; after_results
theorem Vt_arg2 (d : Dev nD) : Vt m d (dr main_arg2) = m ((SparseCore.T d).loc main_arg2) := by
  unfold Vt; after_results
theorem Vt_arg3 (d : Dev nD) : Vt m d (dr main_arg3) = m ((SparseCore.T d).loc main_arg3) := by
  unfold Vt; after_results
theorem Vt_arg4 (d : Dev nD) : Vt m d (dr main_arg4) = m ((SparseCore.T d).loc main_arg4) := by
  unfold Vt; after_results
theorem Vt_arg5 (d : Dev nD) : Vt m d (dr main_arg5) = m ((SparseCore.T d).loc main_arg5) := by
  unfold Vt; after_results

/-! ## After it -/

theorem Vn_ne (d : Dev nD) {b : DevRef τ sig} (h : b ≠ dr main_v11) : Vn m d b = Vt m d b := by
  unfold Vn upd; rw [Function.update_of_ne h]
theorem Vn_v11 (d : Dev nD) : Vn m d (dr main_v11) = idxA m d := by
  unfold Vn; exact upd_self _

theorem Va_arg0 (d : Dev nD) : tb₀ m d = m ((SparseCore.T d).loc main_arg0) := by
  unfold tb₀ Va; after_results
  rw [Vn_ne m d (by decide), Vt_arg0]
theorem Va_v14 (d : Dev nD) : ix₀ m d = words (idxA m d) 0 := by
  unfold ix₀ Va
  after_results
  rw [Vn_v11]
  funext y
  pointwise
  rfl
theorem Vb_arg1 (d : Dev nD) : tb₁ m d = m ((SparseCore.T d).loc main_arg1) := by
  unfold tb₁ Vb
  after_results
  rw [Function.update_of_ne (by decide)]
  unfold Va; after_results
  rw [Vn_ne m d (by decide), Vt_arg1]
theorem Vb_v18 (d : Dev nD) : ix₁ m d = words (idxA m d) 1 := by
  unfold ix₁ Vb
  after_results
  rw [Function.update_of_ne (by decide)]
  unfold Va; after_results
  rw [Vn_v11]
  funext y
  pointwise
  rfl

/-! ## At the end -/

theorem Vc_arg0 (d : Dev nD) : Vc m d (dr main_arg0) = m ((SparseCore.T d).loc main_arg0) := by
  unfold Vc; after_results
  rw [Function.update_of_ne (by decide)]
  unfold Vb; after_results
  rw [Function.update_of_ne (by decide)]
  exact Va_arg0 m d
theorem Vc_arg1 (d : Dev nD) : Vc m d (dr main_arg1) = m ((SparseCore.T d).loc main_arg1) := by
  unfold Vc; after_results
  rw [Function.update_of_ne (by decide)]
  exact Vb_arg1 m d
theorem Vc_arg2 (d : Dev nD) : Vc m d (dr main_arg2) = m ((SparseCore.T d).loc main_arg2) := by
  unfold Vc; after_results
  rw [Function.update_of_ne (by decide)]
  unfold Vb; after_results
  rw [Function.update_of_ne (by decide)]
  unfold Va; after_results
  rw [Vn_ne m d (by decide), Vt_arg2]
theorem Vc_arg3 (d : Dev nD) : Vc m d (dr main_arg3) = m ((SparseCore.T d).loc main_arg3) := by
  unfold Vc; after_results
  rw [Function.update_of_ne (by decide)]
  unfold Vb; after_results
  rw [Function.update_of_ne (by decide)]
  unfold Va; after_results
  rw [Vn_ne m d (by decide), Vt_arg3]
theorem Vc_arg4 (d : Dev nD) : Vc m d (dr main_arg4) = m ((SparseCore.T d).loc main_arg4) := by
  unfold Vc; after_results
  rw [Function.update_of_ne (by decide)]
  unfold Vb; after_results
  rw [Function.update_of_ne (by decide)]
  unfold Va; after_results
  rw [Vn_ne m d (by decide), Vt_arg4]
theorem Vc_arg5 (d : Dev nD) : Vc m d (dr main_arg5) = m ((SparseCore.T d).loc main_arg5) := by
  unfold Vc; after_results
  rw [Function.update_of_ne (by decide)]
  unfold Vb; after_results
  rw [Function.update_of_ne (by decide)]
  unfold Va; after_results
  rw [Vn_ne m d (by decide), Vt_arg5]
theorem Vc_v20 (d : Dev nD) : Vc m d (dr main_v20) = rows (m ((SparseCore.T d).loc main_arg0)) (idxA m d) 0 := by
  unfold Vc; after_results
  rw [Function.update_of_ne (by decide)]
  unfold Vb; after_results
  rw [Function.update_self, Va_arg0, Va_v14]
  exact rows_of _ _ _
theorem Vc_v21 (d : Dev nD) : Vc m d (dr main_v21) = rows (m ((SparseCore.T d).loc main_arg1)) (idxA m d) 1 := by
  unfold Vc; after_results
  rw [Function.update_self, Vb_arg1, Vb_v18]
  exact rows_of _ _ _

/-! ## The coordinates the TensorCore call reads -/

/-- Row `r` of a half of the stacked query coordinates is the argument's row, where the argument has one. -/
theorem Vt_v5_zero (d : Dev nD) (r : Fin 2500) (k : Fin 3) :
    Vt m d (dr main_v5) (ix3 0 ⟨r.val, by omega⟩ k) = m ((SparseCore.T d).loc main_arg4) (ix2 r k) := by
  unfold Vt; after_results
  pointwise
theorem Vt_v5_one (d : Dev nD) (r : Fin 2500) (k : Fin 3) :
    Vt m d (dr main_v5) (ix3 1 ⟨r.val, by omega⟩ k) = m ((SparseCore.T d).loc main_arg5) (ix2 r k) := by
  unfold Vt; after_results
  pointwise
theorem Vt_v10_zero (d : Dev nD) (k : Fin 3) (j : Fin 10000) :
    Vt m d (dr main_v10) (ix3 0 k j) = m ((SparseCore.T d).loc main_arg2) (ix2 j k) := by
  unfold Vt; after_results
  pointwise
theorem Vt_v10_one (d : Dev nD) (k : Fin 3) (j : Fin 10000) :
    Vt m d (dr main_v10) (ix3 1 k j) = m ((SparseCore.T d).loc main_arg3) (ix2 j k) := by
  unfold Vt; after_results
  pointwise

end Cert.Proof.KernelTile

end
-- ==== Proof.Second.lean ====
/-
  The second of the least, on one row of extended reals: a sweep that takes the least value, the first position
  holding it, hides that position and does the same again, and a stable sort of the row whose second position is
  wanted, name the same position. No program is mentioned here.
-/
module

public import Idealize.ShloMosaic.Lib.SortFacts
public import Idealize.ShloMosaic.Lib.PlanTiles.StableSort
public import Idealize.ShloMosaic.PureOps.Ideal.Laws

@[expose] public section

noncomputable section

namespace Cert.Proof.Second

open Idealize.ShloMosaic

/-- A row of distances. -/
abbrev Row := Fin 10000 → EReal

/-- A position, as the number that a float position counter holds. -/
def pos (j : Fin 10000) : EReal := ((j.val : ℝ) : EReal)

/-- The row's least value. -/
def least (D : Row) : EReal := Finset.univ.fold min ⊤ D

/-- The first position at which the row holds `v`, or 10000. -/
def firstAt (D : Row) (v : EReal) : EReal :=
  Finset.univ.fold min ⊤ fun j => if D j = v then pos j else ((10000 : ℝ) : EReal)

/-- The row with position `i` hidden. -/
def hide (D : Row) (i : EReal) : Row := fun j => if pos j = i then ⊤ else D j

/-- The sweep's number for the second least. -/
def second (D : Row) : EReal :=
  firstAt (hide D (firstAt D (least D))) (least (hide D (firstAt D (least D))))

/-- Position `a` comes before position `b`: it holds less, or the same and lies before it. -/
def Before {n : Nat} (D : Fin n → EReal) (a b : Fin n) : Prop := D a < D b ∨ D a = D b ∧ a < b

theorem Before.asymm {n : Nat} {D : Fin n → EReal} {a b : Fin n} (h : Before D a b) (h' : Before D b a) : False := by
  rcases h with h | ⟨h, i⟩ <;> rcases h' with h' | ⟨h', i'⟩
  · exact lt_asymm h h'
  · exact absurd h'.symm h.ne
  · exact absurd h.symm h'.ne
  · exact lt_asymm i i'

theorem pos_le {a b : Fin 10000} : pos a ≤ pos b ↔ a ≤ b := by
  unfold pos; rw [EReal.coe_le_coe_iff, Nat.cast_le]; rfl
theorem pos_inj {a b : Fin 10000} : pos a = pos b ↔ a = b :=
  ⟨fun h => le_antisymm (pos_le.1 h.le) (pos_le.1 h.ge), fun h => h ▸ rfl⟩
theorem pos_le_none (a : Fin 10000) : pos a ≤ ((10000 : ℝ) : EReal) := by
  unfold pos; rw [EReal.coe_le_coe_iff]; exact_mod_cast a.isLt.le

/-- The first position of those that hold a value is where it is. -/
theorem firstAt_eq (D : Row) (v : EReal) (i : Fin 10000) (hi : D i = v) (h : ∀ k, D k = v → i ≤ k) : firstAt D v = pos i := by
  refine le_antisymm ((Finset.fold_min_le _).2 (Or.inr ⟨i, Finset.mem_univ _, ?_⟩)) ((Finset.le_fold_min _).2 ⟨le_top, fun k _ => ?_⟩)
  · rw [if_pos hi]
  · split
    · next hk => exact pos_le.2 (h k hk)
    · exact pos_le_none i

/-- The least value is held somewhere, and there is a first such place. -/
theorem exists_first (D : Row) : ∃ i, firstAt D (least D) = pos i ∧ D i = least D ∧ ∀ k, k ≠ i → Before D i k := by
  classical
  have hle : ∀ k, least D ≤ D k := fun k => ((Finset.le_fold_min _).1 (le_refl (least D))).2 k (Finset.mem_univ _)
  have hex : ∃ j, D j = least D := by
    obtain ⟨j, -, hj⟩ := Finset.exists_min_image Finset.univ D ⟨0, Finset.mem_univ _⟩
    exact ⟨j, le_antisymm ((Finset.le_fold_min _).2 ⟨le_top, fun k hk => hj k hk⟩) (hle j)⟩
  obtain ⟨i, hi, hm⟩ := Finset.exists_min_image (Finset.univ.filter fun j => D j = least D) id
    (hex.imp fun j hj => by simpa using hj)
  have hi' : D i = least D := by simpa using hi
  have hm' : ∀ k, D k = least D → i ≤ k := fun k hk => hm k (by simpa using hk)
  refine ⟨i, firstAt_eq D _ i hi' hm', hi', fun k hk => ?_⟩
  rcases (hle k).lt_or_eq with h | h
  · exact Or.inl (hi' ▸ h)
  · exact Or.inr ⟨hi'.trans h, lt_of_le_of_ne (hm' k h.symm) hk.symm⟩

/-- The sweep's number is always a position. -/
theorem exists_second (D : Row) : ∃ i, second D = pos i :=
  (exists_first _).imp fun _ h => h.1

/-- On a row without a `⊤` the sweep's two positions are the row's first two. -/
theorem second_eq (D : Row) (hD : ∀ k, D k ≠ ⊤) :
    ∃ i j, second D = pos j ∧ j ≠ i ∧ (∀ k, k ≠ i → Before D i k) ∧ ∀ k, k ≠ i → k ≠ j → Before D j k := by
  obtain ⟨i, ei, -, hi⟩ := exists_first D
  obtain ⟨j, ej, -, hj⟩ := exists_first (hide D (firstAt D (least D)))
  have hself : hide D (firstAt D (least D)) i = ⊤ := by unfold hide; rw [if_pos ei.symm]
  have hother : ∀ k, k ≠ i → hide D (firstAt D (least D)) k = D k := fun k hk => by
    unfold hide; rw [if_neg (by rw [ei, pos_inj]; exact hk)]
  have hji : j ≠ i := by
    rintro rfl
    obtain ⟨k, hk⟩ : ∃ k : Fin 10000, k ≠ j := exists_ne j
    rcases hj k hk with h | ⟨h, -⟩
    · rw [hself] at h; exact not_top_lt h
    · rw [hself, hother k hk] at h; exact hD k h.symm
  refine ⟨i, j, ej, hji, hi, fun k hki hkj => ?_⟩
  have h := hj k hkj
  unfold Before at h
  rwa [hother k hki, hother j hji] at h

/-- A stable sort by a row's values, least first, lists the positions in the order `Before`. -/
theorem before_sortedFrom {n : Nat} (D : Fin n → EReal) (a b : Fin n) (h : a < b) :
    Before D (sortedFrom (fun k k' => decide (D k < D k')) a) (sortedFrom (fun k k' => decide (D k < D k')) b) := by
  classical
  -- how many positions hold more: it orders the positions as the values do
  let G : Fin n → Nat := fun x => (Finset.univ.filter fun k => D x < D k).card
  have hle : ∀ x y, D x ≤ D y → G y ≤ G x := fun x y hxy =>
    Finset.card_le_card fun k hk => by
      rw [Finset.mem_filter] at hk ⊢; exact ⟨hk.1, lt_of_le_of_lt hxy hk.2⟩
  have hlt : ∀ x y, D x < D y → G y < G x := fun x y hxy =>
    Finset.card_lt_card ⟨fun k hk => by rw [Finset.mem_filter] at hk ⊢; exact ⟨hk.1, hxy.trans hk.2⟩,
      fun hs => by
        have := hs (Finset.mem_filter.2 ⟨Finset.mem_univ y, hxy⟩)
        rw [Finset.mem_filter] at this; exact lt_irrefl _ this.2⟩
  have hiff : ∀ x y, D x < D y ↔ G y < G x := fun x y =>
    ⟨hlt x y, fun hg => not_le.1 fun hyx => absurd (hle y x hyx) (not_le.2 hg)⟩
  have hR : (fun k k' : Fin n => decide (D k < D k')) = fun x y => decide (G y < G x) := by
    funext x y; exact decide_eq_decide.2 (hiff x y)
  have hp := PlanTiles.pairwise_stableSort_lex G (fun x y : Fin n => x < y) (List.finRange n) (List.pairwise_lt_finRange n)
  rw [hR]
  have hl := (List.pairwise_iff_get.1 hp) (a.cast (length_sortPositions _ _).symm) (b.cast (length_sortPositions _ _).symm) h
  rcases hl with hl | ⟨hl, hl'⟩
  · exact Or.inl ((hiff _ _).2 hl)
  · refine Or.inr ⟨le_antisymm (not_lt.1 fun h => ?_) (not_lt.1 fun h => ?_), hl'⟩
    · exact absurd hl (hlt _ _ h).ne
    · exact absurd hl.symm (hlt _ _ h).ne

/-- So the second position of that sort is the second of a row's first two. -/
theorem sortedFrom_one (D : Row) (i j : Fin 10000) (hji : j ≠ i) (hi : ∀ k, k ≠ i → Before D i k)
    (hj : ∀ k, k ≠ i → k ≠ j → Before D j k) : sortedFrom (fun k k' => decide (D k < D k')) 1 = j := by
  have hinj := sortedFrom_injective (fun k k' : Fin 10000 => decide (D k < D k'))
  have hsur := sortedFrom_surjective (fun k k' : Fin 10000 => decide (D k < D k'))
  have hB := before_sortedFrom D
  generalize sortedFrom (fun k k' : Fin 10000 => decide (D k < D k')) = σ at hinj hsur hB ⊢
  have h0 : σ 0 = i := by
    obtain ⟨a, rfl⟩ := hsur i
    by_contra hne
    have ha : 0 < a := Fin.pos_iff_ne_zero.2 fun h => hne (h ▸ rfl)
    exact (hB 0 a ha).asymm (hi _ hne)
  obtain ⟨b, rfl⟩ := hsur j
  by_contra hne
  have hb0 : b ≠ 0 := fun h => hji (h ▸ h0)
  have hb1 : b ≠ 1 := fun h => hne (h ▸ rfl)
  have hb : 1 < b := by
    have h0' : b.val ≠ 0 := fun h => hb0 (Fin.ext h)
    have h1' : b.val ≠ 1 := fun h => hb1 (Fin.ext h)
    show 1 < b.val
    omega
  refine (hB 1 b hb).asymm (hj _ (fun h => ?_) hne)
  exact absurd (hinj (h.trans h0.symm)) (by decide)

/-- A position, read as a float and truncated, is its word. -/
theorem fptosi_pos (j : Fin 10000) : Ideal.fptosi 32 (pos j) = BitVec.ofNat 32 j.val := by
  unfold Ideal.fptosi pos
  rw [Ideal.toIntClamped_coe, if_pos (Nat.cast_nonneg _), Int.floor_natCast]
  have := j.isLt
  rw [min_eq_right (by push_cast; omega), max_eq_right (by push_cast; omega)]
  exact BitVec.ofInt_natCast 32 _

/-- The sweep's word. -/
def word (D : Row) : BitVec 32 := Ideal.fptosi 32 (second D)

theorem word_lt (D : Row) : (word D).toNat < 10000 := by
  obtain ⟨i, hi⟩ := exists_second D
  have := i.isLt
  unfold word
  rw [hi, fptosi_pos, BitVec.toNat_ofNat]
  exact lt_of_le_of_lt (Nat.mod_le _ _) this

/-- On a row without a `⊤` the sweep's word is the stable sort's second position. -/
theorem word_eq (D : Row) (hD : ∀ k, D k ≠ ⊤) :
    word D = BitVec.ofNat 32 (sortedFrom (fun k k' => decide (D k < D k')) (1 : Fin 10000)).val := by
  obtain ⟨i, j, e, hji, hi, hj⟩ := second_eq D hD
  unfold word
  rw [e, fptosi_pos, sortedFrom_one D i j hji hi hj]

end Cert.Proof.Second

end
-- ==== Proof.KernelRow.lean ====
/-
  The TensorCore body over the extended reals, one query at a time: the row of distances it forms, and the word it
  stores, which is the sweep's second least of that row.
-/
module

public import proofs.«01_k».proof.Proof.KernelRegion
public import proofs.«01_k».proof.Proof.Second
public import Idealize.ShloMosaic.Lib.Pointwise

@[expose] public section

noncomputable section

namespace Cert.Proof.KernelTile

open Cert.KernelIdeal Cert.KernelIdeal.Gen
open Idealize.ShloMosaic
open Idealize.ShloMosaic.Tactic
open Cert.Proof.Second (Row pos least firstAt hide word)

/-! ## The body's stages, as it is written -/

section Stages
variable {F : FTy → Type} [FloatOps F]

/-- The block's distances. -/
def distM (A : Vec F S1x256x3 .f32) (B : Vec F S1x3x10000 .f32) : FVec F S256x10000 .f32 :=
  have v1 : FVec F S256x3 .f32 := shapeCast S256x3 A shapeCasts_S1x256x3_S256x3
  have v3 : FVec F S3x10000 .f32 := shapeCast S3x10000 B shapeCasts_S1x3x10000_S3x10000
  have v4 : FVec F S256x1 .f32 := extractStridedSlice S256x1 ![0, 0] v1 slices_S256x3_o0_0_S256x1
  have v5 : FVec F S256x1 .f32 := extractStridedSlice S256x1 ![0, 1] v1 slices_S256x3_o0_1_S256x1
  have v6 : FVec F S256x1 .f32 := extractStridedSlice S256x1 ![0, 2] v1 slices_S256x3_o0_2_S256x1
  have v7 : FVec F S1x10000 .f32 := extractStridedSlice S1x10000 ![0, 0] v3 slices_S3x10000_o0_0_S1x10000
  have v8 : FVec F S1x10000 .f32 := extractStridedSlice S1x10000 ![1, 0] v3 slices_S3x10000_o1_0_S1x10000
  have v9 : FVec F S1x10000 .f32 := extractStridedSlice S1x10000 ![2, 0] v3 slices_S3x10000_o2_0_S1x10000
  have v14 : FVec F S256x1 .f32 := addf (addf (mulf v4 v4) (mulf v6 v6)) (mulf v5 v5)
  have v19 : FVec F S1x10000 .f32 := addf (addf (mulf v7 v7) (mulf v9 v9)) (mulf v8 v8)
  have v20 : FVec F S256x10000 .f32 :=
    matmul dot_S256x3_S3x10000_S256x10000_1_0_0_1_n_n none v1 v3 (constant S256x10000 .f32 0x00000000#32)
  subf (addf (broadcastTo S256x10000 v14 broadcasts_S256x1_S256x10000) (broadcastTo S256x10000 v19 broadcasts_S1x10000_S256x10000))
    (mulf (broadcast S256x10000 (Scalar.ofBits .f32 0x40000000#32 : F .f32)) v20)

/-- Every row's least value, along the row. -/
def minM (X : FVec F S256x10000 .f32) : FVec F S256x10000 .f32 :=
  broadcastTo S256x10000 (shapeCast S256x1
    (multiReduction .minimumf [1] S256 X 0x7F800000#32 reduces_S256x10000_S256 (.inl rfl) rfl) shapeCasts_S256_S256x1)
    broadcasts_S256x1_S256x10000

/-- The positions that hold their row's least value, and 10000 elsewhere. -/
def pickM (X : FVec F S256x10000 .f32) : FVec F S256x10000 .f32 :=
  select (cmpf .oeq X (minM X)) (k0_pay2 (F := F)) (broadcast S256x10000 (Scalar.ofBits .f32 0x461C4000#32 : F .f32))

/-- Every row with the first such position hidden. -/
def hideM (X : FVec F S256x10000 .f32) : FVec F S256x10000 .f32 :=
  select (cmpf .oeq (k0_pay2 (F := F)) (minM (pickM X))) (broadcast S256x10000 (Scalar.ofBits .f32 0x7F800000#32 : F .f32)) X

theorem top2_stages (A : Vec F S1x256x3 .f32) (B : Vec F S1x3x10000 .f32) :
    top2 A B = shapeCast S1x256x1 (fptosi 32 (shapeCast S256x1
      (multiReduction .minimumf [1] S256 (pickM (hideM (distM A B))) 0x7F800000#32 reduces_S256x10000_S256 (.inl rfl) rfl)
        shapeCasts_S256_S256x1)) shapeCasts_S256x1_S1x256x1 := rfl

end Stages

/-! ## The stages, one row at a time -/

/-- Row `r` of a matrix. -/
def rowAt (X : FVec Ideal S256x10000 .f32) (r : Fin 256) : Row := fun j => X (ix2 r j)

theorem ofBits_top : Ideal.ofBits .f32 2139095040#32 = ⊤ := by simp [Ideal.ofBits, Ideal.ieee]
theorem ofBits_two : Ideal.ofBits .f32 1073741824#32 = ((2 : ℝ) : EReal) := by
  simp [Ideal.ofBits, Ideal.ieee]
  rw [← EReal.coe_mul]
  norm_num
theorem ofBits_none : Ideal.ofBits .f32 1176256512#32 = ((10000 : ℝ) : EReal) := by
  simp [Ideal.ofBits, Ideal.ieee]
  norm_num
  rw [← EReal.coe_mul]
  norm_num

theorem iota_apply (r : Fin 256) (j : Fin 10000) : k0_pay2 (F := Ideal) (ix2 r j) = pos j := by
  unfold k0_pay2 pos
  pointwise
  show (((BitVec.ofNat 32 j.val).toInt : ℝ) : EReal) = _
  have := j.isLt
  rw [BitVec.toInt_eq_toNat_of_lt (by rw [BitVec.toNat_ofNat]; omega), BitVec.toNat_ofNat, Nat.mod_eq_of_lt (by omega)]
  simp

theorem minM_apply (X : FVec Ideal S256x10000 .f32) (r : Fin 256) (j : Fin 10000) : minM X (ix2 r j) = least (rowAt X r) := by
  unfold minM least rowAt
  pointwise
  rw [ofBits_top]

theorem pickM_apply (X : FVec Ideal S256x10000 .f32) (r : Fin 256) (j : Fin 10000) :
    pickM X (ix2 r j) = if X (ix2 r j) = least (rowAt X r) then pos j else ((10000 : ℝ) : EReal) := by
  have e := minM_apply X r j
  unfold pickM
  pointwise
  rw [e, iota_apply, ofBits_none]

theorem least_pickM (X : FVec Ideal S256x10000 .f32) (r : Fin 256) : least (rowAt (pickM X) r) = firstAt (rowAt X r) (least (rowAt X r)) := by
  unfold firstAt
  rw [least]
  exact congrArg (fun f => Finset.univ.fold min ⊤ f) (funext fun j => pickM_apply X r j)

theorem hideM_row (X : FVec Ideal S256x10000 .f32) (r : Fin 256) :
    rowAt (hideM X) r = hide (rowAt X r) (firstAt (rowAt X r) (least (rowAt X r))) := by
  funext j
  have e := minM_apply (pickM X) r j
  rw [least_pickM] at e
  unfold rowAt hideM hide
  pointwise
  rw [e, iota_apply, ofBits_top]
  rfl

/-- What the body stores for a query: the sweep's word of that query's row. -/
theorem top2_apply (A : Vec Ideal S1x256x3 .f32) (B : Vec Ideal S1x3x10000 .f32) (r : Fin 256) :
    top2 A B (ix3 0 r 0) = word (rowAt (distM A B) r) := by
  have e := least_pickM (hideM (distM A B)) r
  rw [hideM_row] at e
  rw [top2_stages]
  pointwise
  rw [ofBits_top]
  exact congrArg (Ideal.fptosi 32) e

/-- The row of distances from a query `a` to the points `b`, summed in the body's order. -/
def distRow (a : Fin 3 → EReal) (b : Fin 3 → Fin 10000 → EReal) : Row := fun j =>
  a 0 * a 0 + a 2 * a 2 + a 1 * a 1 + (b 0 j * b 0 j + b 2 j * b 2 j + b 1 j * b 1 j) - ((2 : ℝ) : EReal) * ∑ k, a k * b k j

theorem distM_row (A : Vec Ideal S1x256x3 .f32) (B : Vec Ideal S1x3x10000 .f32) (r : Fin 256) :
    rowAt (distM A B) r = distRow (fun k => A (ix3 0 r k)) (fun k j => B (ix3 0 k j)) := by
  funext j
  unfold rowAt distM distRow
  pointwise
  rw [ofBits_two]

/-- The whole array of second-nearest indices, entry by entry. -/
theorem second_apply (X : S2x2560x3.Idx → Ideal .f32) (Y : S2x3x10000.Idx → Ideal .f32) (q : Fin 2) (r : Fin 2560) :
    second (F := Ideal) X Y (ix3 q r 0) = word (distRow (fun k => X (ix3 q r k)) (fun k j => Y (ix3 q k j))) := by
  refine (top2_apply _ _ _).trans ?_
  rw [distM_row]
  refine congrArg word (congrArg₂ distRow (funext fun k => ?_) rfl)
  refine congrArg X ?_
  show ix3 q (⟨r.val / 256 * 256 + r.val % 256, _⟩ : Fin 2560) k = ix3 q r k
  congr 1
  exact Fin.ext (Nat.div_add_mod' _ _)

end Cert.Proof.KernelTile

end
-- ==== Proof.RefRows.lean ====
/-
  The reference over the extended reals: its matrix of negated distances, entry by entry; the second column of its
  top-k, which is the second position of a stable sort of a query's distances; and the rows of the table that jax's
  indexing takes by such a list of words.
-/
module

public import proofs.«01_k».proof.Proof.Second
public import proofs.«01_k».proof.Proof.Gen.ReferenceIdeal.Run
public import Idealize.ShloMosaic.Lib.Pointwise
public import Idealize.ShloMosaic.Lib.Routing.Ops

@[expose] public section

noncomputable section

namespace Cert.Proof.RefRows

open Cert.ReferenceIdeal Cert.ReferenceIdeal.Gen
open Idealize.ShloMosaic
open Idealize.ShloMosaic.Tactic
open Cert.Proof.Second (Row word)

/-! ## The negated distances -/

/-- The matrix of negated distances from the queries `X` to the points `Y`, as the reference forms it. -/
abbrev negDist (X : FVec Ideal S2500x3 .f32) (Y : FVec Ideal S10000x3 .f32) : FVec Ideal S2500x10000 .f32 :=
  Host.negf (subf (addf
      (broadcastInDim S2500x10000 ![0, 1] bcast_S2500x1_S2500x10000_0_1 (broadcastInDim S2500x1 ![0] bcast_S2500_S2500x1_0
        (Host.reduceAdd (mulf X X) (constant S_ .f32 0x00000000#32) reducesTo_S2500x3_S2500_d1 h_S_)))
      (broadcastInDim S2500x10000 ![0, 1] bcast_S1x10000_S2500x10000_0_1 (broadcastInDim S1x10000 ![1] bcast_S10000_S1x10000_1
        (Host.reduceAdd (mulf Y Y) (constant S_ .f32 0x00000000#32) reducesTo_S10000x3_S10000_d1 h_S_))))
    (mulf (broadcastInDim S2500x10000 ![] bcast_S_S2500x10000 (constant S_ .f32 0x40000000#32))
      (Host.dotGeneral dot_S2500x3_S3x10000_S2500x10000_1_0_0_1_n_n none X (transpose S3x10000 [1, 0] Y transposes_S10000x3_S3x10000_1_0))))

/-- The row of distances from a query `a` to the points `b`. -/
def nearRow (a : Fin 3 → EReal) (b : Fin 3 → Fin 10000 → EReal) : Row := fun j =>
  (∑ k, a k * a k) + (∑ k, b k j * b k j) - ((2 : ℝ) : EReal) * ∑ k, a k * b k j

theorem ofBits_two : Ideal.ofBits .f32 1073741824#32 = ((2 : ℝ) : EReal) := by
  simp [Ideal.ofBits, Ideal.ieee]
  rw [← EReal.coe_mul]
  norm_num

theorem negDist_apply (X : FVec Ideal S2500x3 .f32) (Y : FVec Ideal S10000x3 .f32) (i : Fin 2500) (j : Fin 10000) :
    negDist X Y (ix2 i j) = -nearRow (fun k => X (ix2 i k)) (fun k j => Y (ix2 j k)) j := by
  unfold negDist nearRow
  pointwise
  rw [ofBits_two]

/-! ## The second column of the top-k -/

/-- Of the positions that a top-k along the rows of a matrix gives, the one at `k`: the stable sort's. -/
theorem topK_snd {M N K : Nat} {α : Type} (gt : α → α → BitVec 1) (x : (⟨2, ![M, N]⟩ : Shape).Idx → α)
    (h : (⟨2, ![M, N]⟩ : Shape).Slices (fun _ => 0) ⟨2, ![M, K]⟩) (i : Fin M) (k : Fin K) (k' : Fin N) (hk : k'.val = k.val) :
    (Host.topK ⟨2, ![M, K]⟩ 1 gt x h).2 (ix2 i k)
      = BitVec.ofNat 32 (sortedFrom (fun a b : Fin N => gt (x (ix2 i a)) (x (ix2 i b)) == 1#1) k').val := by
  have hd : (1 : Nat) < (⟨2, ![M, N]⟩ : Shape).rank := Nat.one_lt_two
  have hal : ∀ a : Fin N, (ix2 i k' : (⟨2, ![M, N]⟩ : Shape).Idx).along ⟨1, hd⟩ a = ix2 i a := fun a => by
    funext b
    match b with
    | ⟨0, _⟩ => exact Function.update_of_ne (fun h => absurd (congrArg Fin.val h) (by decide : ¬ (0 : Nat) = 1)) _ _
    | ⟨1, _⟩ => exact Function.update_self _ _ _
  have hi : (fun j : (⟨2, ![M, N]⟩ : Shape).Idx => if hd : 1 < (⟨2, ![M, N]⟩ : Shape).rank then iotaInDim ⟨2, ![M, N]⟩ 32 ⟨1, hd⟩ j else 0#32)
      = fun j => BitVec.ofNat 32 (j 1).val := funext fun j => dif_pos hd
  have he : (fun a => ⟨0 + ((ix2 i k : (⟨2, ![M, K]⟩ : Shape).Idx) (a.cast h.1.symm)).val,
      Nat.lt_of_lt_of_le (Nat.add_lt_add_left (Fin.isLt _) _) (h.2 a)⟩ : (⟨2, ![M, N]⟩ : Shape).Idx) = ix2 i k' := by
    funext a
    match a with
    | ⟨0, _⟩ => exact Fin.ext (Nat.zero_add _)
    | ⟨1, _⟩ => exact Fin.ext ((Nat.zero_add _).trans hk.symm)
  have e : (Host.topK ⟨2, ![M, K]⟩ 1 gt x h).2 (ix2 i k)
      = (Host.sort2 ⟨2, ![M, N]⟩ 1 (fun l r : α × BitVec 32 => gt l.1 r.1) x (fun j => BitVec.ofNat 32 (j 1).val)).2 (ix2 i k') := by
    rw [← hi, ← he]
    rfl
  rw [e]
  unfold Host.sort2
  rw [dif_pos hd]
  refine (congrArg (fun j : (⟨2, ![M, N]⟩ : Shape).Idx => BitVec.ofNat 32 (j 1).val) (hal _)).trans ?_
  refine congrArg (fun R => BitVec.ofNat 32 (sortedFrom R k').val) (funext fun a => funext fun b => ?_)
  exact congrArg (· == 1#1) (congrArg₂ gt (congrArg x (hal a)) (congrArg x (hal b)))

/-- The top two of every row, the greater first: the second one's position. -/
theorem topK_one (x : FVec Ideal S2500x10000 .f32) (i : Fin 2500) :
    (Host.topK S2500x2 1 (FloatOps.cmpfTotal .gt) x sliceFits_S2500x10000_S2500x2).2 (ix2 i 1)
      = BitVec.ofNat 32 (sortedFrom (fun k k' : Fin 10000 => FloatOps.cmpfTotal .gt (x (ix2 i k)) (x (ix2 i k')) == 1#1) 1).val :=
  topK_snd _ x _ i 1 1 rfl

/-- jax's list of indices: the second column of the top two. -/
abbrev seconds (x : FVec Ideal S2500x10000 .f32) : IVec S2500 32 :=
  shapeCast _ (extractStridedSlice S2500x1 ![0, 1] ((Host.topK S2500x2 1 (FloatOps.cmpfTotal .gt) x sliceFits_S2500x10000_S2500x2).2)
    slices_S2500x2_S2500x1_0_1) shapeCasts_S2500x1_S2500

theorem seconds_apply (X : FVec Ideal S2500x3 .f32) (Y : FVec Ideal S10000x3 .f32) (i : Fin 2500)
    (h : ∀ j, nearRow (fun k => X (ix2 i k)) (fun k j => Y (ix2 j k)) j ≠ ⊤) :
    seconds (negDist X Y) (ix1 i) = word (nearRow (fun k => X (ix2 i k)) (fun k j => Y (ix2 j k))) := by
  have e : seconds (negDist X Y) (ix1 i)
      = (Host.topK S2500x2 1 (FloatOps.cmpfTotal .gt) (negDist X Y) sliceFits_S2500x10000_S2500x2).2 (ix2 i 1) := by
    unfold seconds
    generalize (Host.topK S2500x2 1 (FloatOps.cmpfTotal .gt) (negDist X Y) sliceFits_S2500x10000_S2500x2).2 = t
    pointwise
  rw [e, topK_one, Second.word_eq _ h]
  congr 3
  funext k k'
  rw [negDist_apply, negDist_apply]
  have hb : ∀ p : Bool, (BitVec.ofBool p == 1#1) = p := by decide
  exact (hb _).trans (decide_eq_decide.2 EReal.neg_lt_neg_iff)

/-! ## jax's indexing of a table by words that are rows -/

/-- The start index jax computes of a word: a negative one counts from the end. -/
abbrev start (v : IVec S2500 32) : IVec S2500x1 32 :=
  broadcastInDim S2500x1 ![0] bcast_S2500_S2500x1_0 (select (cmpi .slt v (broadcastInDim S2500 ![] bcast_S_S2500 (constantI S_ 32 0#32)))
    (addi v (broadcastInDim S2500 ![] bcast_S_S2500 (constantI S_ 32 10000#32))) v)

/-- Of a word that is a row it is the word. -/
theorem start_eq (v : IVec S2500 32) (i : Fin 2500) (h : (v (ix1 i)).toNat < 10000) : start v (ix2 i 0) = v (ix1 i) := by
  unfold start
  pointwise
  have hn : (v (ix1 i)).slt 0#32 = false := by
    rw [BitVec.slt_eq_decide, BitVec.toInt_eq_toNat_cond]; simp; omega
  unfold Scalar.select IntOp.cmpi
  simp only [hn]
  rfl

theorem rows_eq {α : Type} (tab : S10000x128.Idx → α) (v : IVec S2500 32) (h : ∀ i : Fin 2500, (v (ix1 i)).toNat < 10000) (y : S2500x128.Idx) :
    Host.gather gather_S10000x128_S2500x1_S2500x128_1_0_n_n_0_1_1128 tab (start v) y
      = tab (ix2 ⟨min (v (ix1 (y 0))).toNat 9999, by omega⟩ (y 1)) := by
  have hb : start v (ix2 (y 0) 0) = BitVec.ofNat 32 (min (v (ix1 (y 0))).toNat 9999) := by
    rw [start_eq v (y 0) (h _), Nat.min_eq_left (by have := h (y 0); omega), BitVec.ofNat_toNat, BitVec.setWidth_eq]
  have e := Routing.gather_row gather_S10000x128_S2500x1_S2500x128_1_0_n_n_0_1_1128 rfl rfl rfl rfl rfl tab (start v) (y 0) (y 1)
    ⟨min (v (ix1 (y 0))).toNat 9999, by omega⟩ hb (by decide)
  refine (congrArg _ (ValueIdx.eq_ix2 y)).trans (e.trans (congrArg tab (funext fun a => ?_)))
  match a with
  | 0 => rfl
  | 1 => rfl

end Cert.Proof.RefRows

end
-- ==== Proof.Whole.lean ====
/-
  The whole kernel and the reference over the extended reals: the kernel's words are all rows of the tables, whatever
  the arguments hold; and where the coordinates are finite they are the reference's, so the results are equal.
-/
module

public import proofs.«01_k».proof.Proof.KernelValue
public import proofs.«01_k».proof.Proof.KernelRow
public import proofs.«01_k».proof.Proof.RefRows
public import proofs.«01_k».proof.Proof.Gen.Pre_finite_coords
public import Idealize.ShloMosaic.Lib.ReduceAll

@[expose] public section

noncomputable section

namespace Cert.Proof.Whole

open Cert.KernelIdeal Cert.KernelIdeal.Gen
open Idealize.ShloMosaic
open Idealize.ShloMosaic.Tactic
open Cert.Proof.KernelTile (dr Vt idxA words rows rowOf distRow)
open Cert.Proof.RefRows (nearRow negDist seconds start)
open Cert.Proof.Second (Row word)

/-! ## The kernel's words -/

/-- Every word of the index array is a row of the tables: the sweep always stops at a position. -/
theorem idxA_lt (m : (ℓ : Loc nD τ sig) → Buf (Elt Ideal) ℓ) (d : Dev nD) (q : Fin 2) (r : Fin 2560) :
    (idxA m d (ix3 q r 0)).toNat < 10000 := by
  exact (congrArg BitVec.toNat (KernelTile.second_apply _ _ q r)).trans_lt (Second.word_lt _)

/-- The two programs' rows of distances differ in the order of the sums alone. -/
theorem distRow_eq (a : Fin 3 → EReal) (b : Fin 3 → Fin 10000 → EReal) : distRow a b = nearRow a b := by
  funext j
  unfold distRow nearRow
  rw [Fin.sum_univ_three (fun k => a k * a k), Fin.sum_univ_three (fun k => b k j * b k j), add_right_comm (a 0 * a 0), add_right_comm (b 0 j * b 0 j)]

/-- A row of distances between finite coordinates is finite. -/
theorem nearRow_ne_top (a : Fin 3 → EReal) (b : Fin 3 → Fin 10000 → EReal) (ha : ∀ k, ∃ r : ℝ, a k = r) (hb : ∀ k j, ∃ r : ℝ, b k j = r)
    (j : Fin 10000) : nearRow a b j ≠ ⊤ := by
  choose a' ha' using ha
  choose b' hb' using hb
  unfold nearRow
  simp only [ha', hb', Fin.sum_univ_three, ← EReal.coe_mul, ← EReal.coe_add, ← EReal.coe_sub]
  exact EReal.coe_ne_top _

variable (m : (ℓ : Loc nD τ sig) → Buf (Elt Ideal) ℓ) (d : Dev nD)

/-- The word of a query of the first half, -/
theorem idxA_zero (i : Fin 2500) : idxA m d (ix3 0 ⟨i.val, by omega⟩ 0)
    = word (nearRow (fun k => m ((SparseCore.T d).loc main_arg4) (ix2 i k)) (fun k j => m ((SparseCore.T d).loc main_arg2) (ix2 j k))) := by
  refine (KernelTile.second_apply _ _ 0 _).trans ?_
  rw [distRow_eq]
  exact congrArg word (congrArg₂ nearRow (funext fun k => KernelTile.Vt_v5_zero m d i k)
    (funext fun k => funext fun j => KernelTile.Vt_v10_zero m d k j))
/-- and of the second. -/
theorem idxA_one (i : Fin 2500) : idxA m d (ix3 1 ⟨i.val, by omega⟩ 0)
    = word (nearRow (fun k => m ((SparseCore.T d).loc main_arg5) (ix2 i k)) (fun k j => m ((SparseCore.T d).loc main_arg3) (ix2 j k))) := by
  refine (KernelTile.second_apply _ _ 1 _).trans ?_
  rw [distRow_eq]
  exact congrArg word (congrArg₂ nearRow (funext fun k => KernelTile.Vt_v5_one m d i k)
    (funext fun k => funext fun j => KernelTile.Vt_v10_one m d k j))

/-! ## The results -/

/-- The reference's rows of a table are the kernel's, for queries `X` and points `Y` of finite coordinates. -/
theorem result (tab : S10000x128.Idx → Ideal .f32) (X : S2500x3.Idx → Ideal .f32) (Y : S10000x3.Idx → Ideal .f32)
    (hX : ∀ i k, ∃ r : ℝ, X (ix2 i k) = (r : EReal)) (hY : ∀ j k, ∃ r : ℝ, Y (ix2 j k) = (r : EReal)) (x : S2x2560x1.Idx → BitVec 32) (q : Fin 2)
    (hx : ∀ i : Fin 2500, x (ix3 q ⟨i.val, by omega⟩ 0) = word (nearRow (fun k => X (ix2 i k)) (fun k j => Y (ix2 j k)))) :
    Host.gather Cert.ReferenceIdeal.gather_S10000x128_S2500x1_S2500x128_1_0_n_n_0_1_1128 tab (start (seconds (negDist X Y)))
      = rows (F := Ideal) tab x q := by
  have hs : ∀ i : Fin 2500, seconds (negDist X Y) (ix1 i) = x (ix3 q ⟨i.val, by omega⟩ 0) := fun i => by
    rw [hx i]
    exact RefRows.seconds_apply X Y i (nearRow_ne_top _ _ (fun k => hX i k) fun k j => hY j k)
  funext y
  rw [RefRows.rows_eq tab _ (fun i => by rw [hs, hx]; exact Second.word_lt _) y]
  unfold rows rowOf
  exact congrArg (fun n : Fin 10000 => tab (ix2 n (y 1))) (Fin.ext (congrArg (fun w : BitVec 32 => min w.toNat 9999) (hs (y 0))))

/-! ## The precondition -/

/-- A value whose size is below infinity, as jax computes it, is a real. -/
theorem real_of_lt (x : EReal) (h : BitVec.ofBool (decide (max x (-x) < ⊤)) = 1#1) : ∃ r : ℝ, x = r := by
  have h' : max x (-x) < ⊤ := by
    by_contra hn
    rw [decide_eq_false hn] at h
    exact absurd h (by decide)
  induction x with
  | bot => simp at h'
  | top => simp at h'
  | coe r => exact ⟨r, rfl⟩

theorem and_one (x y : BitVec 1) : IntOp.andi x y = 1#1 ↔ x = 1#1 ∧ y = 1#1 := by
  revert x y; decide

/-- Finite coordinates, as jax computes it. -/
theorem real_of_fn (f₀ f₁ : S10000x128.Idx → Ideal .f32) (Y₀ Y₁ : S10000x3.Idx → Ideal .f32) (X₀ X₁ : S2500x3.Idx → Ideal .f32)
    (h : Pre_finite_coords.fn (F := Ideal) f₀ f₁ Y₀ Y₁ X₀ X₁ = fun _ => 1#1) :
    (∀ i, ∃ r : ℝ, Y₀ i = (r : EReal)) ∧ (∀ i, ∃ r : ℝ, Y₁ i = (r : EReal)) ∧ (∀ i, ∃ r : ℝ, X₀ i = (r : EReal)) ∧ ∀ i, ∃ r : ℝ, X₁ i = (r : EReal) := by
  have h0 := congrFun h ix0
  dsimp only [Pre_finite_coords.fn, Pre_finite_coords.fn_part1] at h0
  obtain ⟨h0, h3⟩ := (and_one _ _).1 h0
  obtain ⟨h0, h2⟩ := (and_one _ _).1 h0
  obtain ⟨h0, h1⟩ := (and_one _ _).1 h0
  refine ⟨fun i => ?_, fun i => ?_, fun i => ?_, fun i => ?_⟩
  · have e := Host.reduce_andi_all _ _ _ _ _ h0 i
    exact real_of_lt _ (by rw [← KernelTile.ofBits_top]; exact e)
  · have e := Host.reduce_andi_all _ _ _ _ _ h1 i
    exact real_of_lt _ (by rw [← KernelTile.ofBits_top]; exact e)
  · have e := Host.reduce_andi_all _ _ _ _ _ h2 i
    exact real_of_lt _ (by rw [← KernelTile.ofBits_top]; exact e)
  · have e := Host.reduce_andi_all _ _ _ _ _ h3 i
    exact real_of_lt _ (by rw [← KernelTile.ofBits_top]; exact e)

end Cert.Proof.Whole

end
-- ==== Proof.NearestValue.lean ====
/-
  The TensorCore call alone, over the extended reals: what it leaves in its result's array is, for every query of both
  batches, the sweep's word of that query's row of distances.
-/
module

public import proofs.«01_k».proof.Proof.KernelRow
public import proofs.«01_k».proof.Proof.Gen.NearestIdeal.Value

@[expose] public section

noncomputable section

namespace Cert.Proof.Nearest

open Cert.NearestIdeal Cert.NearestIdeal.Gen
open Idealize.ShloMosaic Idealize.ShloMosaic.TcCoe Idealize.SL.Sem
open Idealize.ShloMosaic.Tactic
open Idealize.ShloMosaic.Pipeline (Dat)
open Cert.Proof.KernelTile (top2 blockA blockB second)

variable {F : FTy → Type} [FloatOps F]

/-- The call's body is the whole kernel's. -/
theorem body_eq (A : Vec F S1x256x3 .f32) (B : Vec F S1x3x10000 .f32) : k0_pay1 (k0_pay2 (F := F)) (k0_pay3 A B) = top2 A B := rfl

/-- What a point leaves in its block. -/
theorem out_eq (A : Vec F S1x256x3 .f32) (B : Vec F S1x3x10000 .f32) : out0_2 A B = top2 A B := by
  have hz : ∀ a : Fin 3, (![0, 0, 0] : Fin 3 → Nat) a = 0 := by decide
  have hA : View.ld A r0_0 = A := View.ld_unit_lit inb_S1x256x3_S1x256x3_0_0_0 A hz
  have hB : View.ld B r0_1 = B := View.ld_unit_lit inb_S1x3x10000_S1x3x10000_0_0_0 B hz
  unfold out0_2
  rw [hA, hB, body_eq]
  exact View.canon_cons_unit_lit (Val := Elt F) (e := .i32) (S := S1x256x1) inb_S1x256x1_S1x256x1_0_0_0 (top2 A B) [] hz

variable (m : (ℓ : Loc nD τ sig) → Buf (Elt F) ℓ)

/-- Batch and block of a point, and where a block's entry lies in its array. -/
theorem tr0 (i : grid0.Coords) : cc0_transform_0 i = ![(i 0).val, (i 1).val, 0] := KernelTile.tr0 i
theorem tr1 (i : grid0.Coords) : cc0_transform_1 i = ![(i 0).val, 0, 0] := KernelTile.tr1 i
theorem emb0 (t : Fin cfg0.N) (y : S1x256x3.Idx) :
    (win0_0.rect t).emb y = ix3 (n0 := 2) (n1 := 2560) (n2 := 3) (grid0.coords t 0) ⟨(grid0.coords t 1).val * 256 + (y 1).val, by
      have : (y 1).val < 256 := (y 1).isLt; have : (grid0.coords t 1).val < 10 := (grid0.coords t 1).isLt; omega⟩ (y 2) :=
  KernelTile.emb0 t y
theorem emb1 (t : Fin cfg0.N) (y : S1x3x10000.Idx) :
    (win0_1.rect t).emb y = ix3 (n0 := 2) (n1 := 3) (n2 := 10000) (grid0.coords t 0) (y 1) (y 2) :=
  KernelTile.emb1 t y
theorem emb2 (t : Fin cfg0.N) (y : S1x256x1.Idx) :
    (win0_2.rect t).emb y = ix3 (n0 := 2) (n1 := 2560) (n2 := 1) (grid0.coords t 0) ⟨(grid0.coords t 1).val * 256 + (y 1).val, by
      have : (y 1).val < 256 := (y 1).isLt; have : (grid0.coords t 1).val < 10 := (grid0.coords t 1).isLt; omega⟩ (y 2) :=
  KernelTile.emb2 t y

theorem iblkA_eq (c : Dev nD) (t : Fin cfg0.N) :
    iblk m c 0 t = blockA (m ((c : Thread nD τ).loc main_arg0)) (grid0.coords t 0) (grid0.coords t 1) :=
  funext fun y => congrArg (m ((c : Thread nD τ).loc main_arg0)) (emb0 t y)
theorem iblkB_eq (c : Dev nD) (t : Fin cfg0.N) :
    iblk m c 1 t = blockB (m ((c : Thread nD τ).loc main_arg1)) (grid0.coords t 0) :=
  funext fun y => congrArg (m ((c : Thread nD τ).loc main_arg1)) (emb1 t y)

/-- The result's array after the call: every query's second-nearest index. -/
theorem arr_eq (c : Dev nD) : (dats m 0 c).arrAt 2 cfg0.N
    = second (F := F) (m ((c : Thread nD τ).loc main_arg0)) (m ((c : Thread nD τ).loc main_arg1)) := by
  refine Dat.arrAt_eq_of_cover (dats m 0 c) 2 (second (F := F) (m ((c : Thread nD τ).loc main_arg0)) (m ((c : Thread nD τ).loc main_arg1)))
    (fun t _ => ?_) fun i => ?_
  · rw [Value.flushed2, out_eq]
    funext y
    refine Eq.trans (b := top2 (iblk m c 0 t) (iblk m c 1 t) y) rfl ?_
    refine Eq.trans ?_ (congrArg (second (F := F) (m ((c : Thread nD τ).loc main_arg0)) (m ((c : Thread nD τ).loc main_arg1))) (emb2 t y)).symm
    have y0 : (y 0).val < 1 := (y 0).isLt
    have y1 : (y 1).val < 256 := (y 1).isLt
    have y2 : (y 2).val < 1 := (y 2).isLt
    unfold second
    rw [iblkA_eq, iblkB_eq]
    have e1 : (⟨((grid0.coords t 1).val * 256 + (y 1).val) / 256, by
      have : (grid0.coords t 1).val < 10 := (grid0.coords t 1).isLt; omega⟩ : Fin 10) = grid0.coords t 1 := Fin.ext (by show ((grid0.coords t 1).val * 256 + (y 1).val) / 256 = (grid0.coords t 1).val; omega)
    have e2 : y = ix3 (n0 := 1) (n1 := 256) (n2 := 1) 0 ⟨((grid0.coords t 1).val * 256 + (y 1).val) % 256, by omega⟩ 0 := by
      funext a
      apply Fin.ext
      match a with
      | 0 => show (y 0).val = 0; omega
      | 1 => show (y 1).val = ((grid0.coords t 1).val * 256 + (y 1).val) % 256; omega
      | 2 => show (y 2).val = 0; omega
    show top2 _ _ y = top2 (blockA _ _ ⟨((grid0.coords t 1).val * 256 + (y 1).val) / 256, _⟩) _ _
    rw [e1]
    exact congrArg _ e2
  · have i1 : (i 1).val < 2560 := (i 1).isLt
    have i2 : (i 2).val < 1 := (i 2).isLt
    obtain ⟨t, ht⟩ := Pipeline.Grid.coords_surjective grid0 (fun | 0 => i 0 | 1 => (⟨(i 1).val / 256, by show _ < 10; omega⟩ : Fin 10) | ⟨_ + 2, h⟩ => absurd h (Nat.not_lt.2 (Nat.le_add_left _ _)))
    refine ⟨t, flush0_2 t, ?_⟩
    have e := emb2 t (ix3 (n0 := 1) (n1 := 256) (n2 := 1) 0 ⟨(i 1).val % 256, by omega⟩ 0)
    have : i = (win0_2.rect t).emb (ix3 (n0 := 1) (n1 := 256) (n2 := 1) 0 ⟨(i 1).val % 256, by omega⟩ 0) := by
      rw [e]
      funext a
      apply Fin.ext
      match a with
      | 0 => exact (congrArg Fin.val (congrFun ht 0)).symm
      | 1 =>
        have h1 : (grid0.coords t 1).val = (i 1).val / 256 := congrArg Fin.val (congrFun ht 1)
        show (i 1).val = (grid0.coords t 1).val * 256 + (i 1).val % 256
        omega
      | 2 => show (i 2).val = 0; omega
    rw [this]
    exact ((cfg0.win 2).blk t).view.emb_mem_set _

end Cert.Proof.Nearest

end
-- ==== Proof.NearestRef.lean ====
/-
  The TensorCore call's reference over the extended reals: for either batch, the second column of the top-k of its matrix
  of negated distances, which is the second position of a stable sort of a query's distances.
-/
module

public import proofs.«01_k».proof.Proof.RefRows
public import proofs.«01_k».proof.Proof.Whole
public import proofs.«01_k».proof.Proof.Gen.PlacesIdeal.Run
public import proofs.«01_k».proof.Proof.Gen.Pre_finite_points

@[expose] public section

noncomputable section

namespace Cert.Proof.NearestRef

open Cert.PlacesIdeal Cert.PlacesIdeal.Gen
open Idealize.ShloMosaic
open Idealize.ShloMosaic.Tactic
open Cert.Proof.RefRows (nearRow topK_snd ofBits_two)
open Cert.Proof.Second (Row word)

/-- The matrix of negated distances from the queries `X` to the points whose coordinates are the rows of `Y`. -/
abbrev negDist (X : FVec Ideal S2560x3 .f32) (Y : FVec Ideal S3x10000 .f32) : FVec Ideal S2560x10000 .f32 :=
  Host.negf (subf (addf
      (broadcastInDim S2560x10000 ![0, 1] bcast_S2560x1_S2560x10000_0_1 (broadcastInDim S2560x1 ![0] bcast_S2560_S2560x1_0
        (Host.reduceAdd (mulf X X) (constant S_ .f32 0x00000000#32) reducesTo_S2560x3_S2560_d1 h_S_)))
      (broadcastInDim S2560x10000 ![0, 1] bcast_S1x10000_S2560x10000_0_1 (broadcastInDim S1x10000 ![1] bcast_S10000_S1x10000_1
        (Host.reduceAdd (mulf (transpose S10000x3 [1, 0] Y transposes_S3x10000_S10000x3_1_0) (transpose S10000x3 [1, 0] Y transposes_S3x10000_S10000x3_1_0))
          (constant S_ .f32 0x00000000#32) reducesTo_S10000x3_S10000_d1 h_S_))))
    (mulf (broadcastInDim S2560x10000 ![] bcast_S_S2560x10000 (constant S_ .f32 0x40000000#32))
      (Host.dotGeneral dot_S2560x3_S3x10000_S2560x10000_1_0_0_1_n_n none X
        (transpose S3x10000 [1, 0] (transpose S10000x3 [1, 0] Y transposes_S3x10000_S10000x3_1_0) transposes_S10000x3_S3x10000_1_0))))

theorem negDist_apply (X : FVec Ideal S2560x3 .f32) (Y : FVec Ideal S3x10000 .f32) (i : Fin 2560) (j : Fin 10000) :
    negDist X Y (ix2 i j) = -nearRow (fun k => X (ix2 i k)) (fun k j => Y (ix2 k j)) j := by
  unfold negDist nearRow
  pointwise
  rw [ofBits_two]

/-- The second column of the top two, as a batch of one. -/
abbrev column (x : FVec Ideal S2560x10000 .f32) : IVec S1x2560x1 32 :=
  broadcastInDim S1x2560x1 ![1, 2] bcast_S2560x1_S1x2560x1_1_2 (extractStridedSlice S2560x1 ![0, 1]
    ((Host.topK S2560x2 1 (FloatOps.cmpfTotal .gt) x sliceFits_S2560x10000_S2560x2).2) slices_S2560x2_S2560x1_0_1)

theorem column_apply (X : FVec Ideal S2560x3 .f32) (Y : FVec Ideal S3x10000 .f32) (i : Fin 2560)
    (h : ∀ j, nearRow (fun k => X (ix2 i k)) (fun k j => Y (ix2 k j)) j ≠ ⊤) :
    column (negDist X Y) (ix3 0 i 0) = word (nearRow (fun k => X (ix2 i k)) (fun k j => Y (ix2 k j))) := by
  have e : column (negDist X Y) (ix3 0 i 0)
      = (Host.topK S2560x2 1 (FloatOps.cmpfTotal .gt) (negDist X Y) sliceFits_S2560x10000_S2560x2).2 (ix2 i 1) := by
    unfold column
    generalize (Host.topK S2560x2 1 (FloatOps.cmpfTotal .gt) (negDist X Y) sliceFits_S2560x10000_S2560x2).2 = t
    pointwise
  have e2 : (Host.topK S2560x2 1 (FloatOps.cmpfTotal .gt) (negDist X Y) sliceFits_S2560x10000_S2560x2).2 (ix2 i 1)
      = BitVec.ofNat 32 (sortedFrom (fun k k' : Fin 10000 => FloatOps.cmpfTotal .gt (negDist X Y (ix2 i k)) (negDist X Y (ix2 i k')) == 1#1) 1).val :=
    topK_snd _ _ _ i 1 1 rfl
  rw [e, e2, Second.word_eq _ h]
  congr 3
  funext k k'
  rw [negDist_apply, negDist_apply]
  have hb : ∀ p : Bool, (BitVec.ofBool p == 1#1) = p := by decide
  exact (hb _).trans (decide_eq_decide.2 EReal.neg_lt_neg_iff)

/-! ## Both batches -/

variable (X : FVec Ideal S2x2560x3 .f32) (Y : FVec Ideal S2x3x10000 .f32)

/-- The queries and the points of either batch. -/
abbrev X0 : FVec Ideal S2560x3 .f32 := shapeCast _ (extractStridedSlice S1x2560x3 ![0, 0, 0] X slices_S2x2560x3_S1x2560x3_0_0_0) shapeCasts_S1x2560x3_S2560x3
abbrev X1 : FVec Ideal S2560x3 .f32 := shapeCast _ (extractStridedSlice S1x2560x3 ![1, 0, 0] X slices_S2x2560x3_S1x2560x3_1_0_0) shapeCasts_S1x2560x3_S2560x3
abbrev Y0 : FVec Ideal S3x10000 .f32 := shapeCast _ (extractStridedSlice S1x3x10000 ![0, 0, 0] Y slices_S2x3x10000_S1x3x10000_0_0_0) shapeCasts_S1x3x10000_S3x10000
abbrev Y1 : FVec Ideal S3x10000 .f32 := shapeCast _ (extractStridedSlice S1x3x10000 ![1, 0, 0] Y slices_S2x3x10000_S1x3x10000_1_0_0) shapeCasts_S1x3x10000_S3x10000

theorem X0_apply (i : Fin 2560) (k : Fin 3) : X0 X (ix2 i k) = X (ix3 0 i k) := by unfold X0; pointwise
theorem X1_apply (i : Fin 2560) (k : Fin 3) : X1 X (ix2 i k) = X (ix3 1 i k) := by unfold X1; pointwise
theorem Y0_apply (k : Fin 3) (j : Fin 10000) : Y0 Y (ix2 k j) = Y (ix3 0 k j) := by unfold Y0; pointwise
theorem Y1_apply (k : Fin 3) (j : Fin 10000) : Y1 Y (ix2 k j) = Y (ix3 1 k j) := by unfold Y1; pointwise

/-- The reference's result. -/
abbrev places : IVec S2x2560x1 32 :=
  concatenate S2x2560x1 0 [⟨S1x2560x1, column (negDist (X0 X) (Y0 Y))⟩, ⟨S1x2560x1, column (negDist (X1 X) (Y1 Y))⟩]
    concatenates_S1x2560x1_S1x2560x1_S2x2560x1_d0

theorem places_eq (m : (ℓ : Loc nD τ sig) → Buf (Elt Ideal) ℓ) (c : Dev nD) :
    Value.res_main_v44 m c = places (m ((c.tc : Thread nD τ).loc main_arg0)) (m ((c.tc : Thread nD τ).loc main_arg1)) := rfl

/-- Entry by entry, of finite arguments: the query's word. -/
theorem places_apply (hX : ∀ i, ∃ r : ℝ, X i = (r : EReal)) (hY : ∀ i, ∃ r : ℝ, Y i = (r : EReal)) (q : Fin 2) (i : Fin 2560) :
    places X Y (ix3 q i 0) = word (nearRow (fun k => X (ix3 q i k)) (fun k j => Y (ix3 q k j))) := by
  have hn := Whole.nearRow_ne_top (fun k => X (ix3 q i k)) (fun k j => Y (ix3 q k j)) (fun _ => hX _) fun _ _ => hY _
  match q with
  | 0 =>
    have e : places X Y (ix3 0 i 0) = column (negDist (X0 X) (Y0 Y)) (ix3 0 i 0) := by
      unfold places
      generalize column (negDist (X0 X) (Y0 Y)) = s
      generalize column (negDist (X1 X) (Y1 Y)) = t
      pointwise
    have er : nearRow (fun k => X0 X (ix2 i k)) (fun k j => Y0 Y (ix2 k j)) = nearRow (fun k => X (ix3 0 i k)) (fun k j => Y (ix3 0 k j)) :=
      congrArg₂ nearRow (funext fun k => X0_apply X i k) (funext fun k => funext fun j => Y0_apply Y k j)
    rw [e, column_apply _ _ _ (fun j => by rw [er]; exact hn j), er]
  | 1 =>
    have e : places X Y (ix3 1 i 0) = column (negDist (X1 X) (Y1 Y)) (ix3 0 i 0) := by
      unfold places
      generalize column (negDist (X0 X) (Y0 Y)) = s
      generalize column (negDist (X1 X) (Y1 Y)) = t
      pointwise
    have er : nearRow (fun k => X1 X (ix2 i k)) (fun k j => Y1 Y (ix2 k j)) = nearRow (fun k => X (ix3 1 i k)) (fun k j => Y (ix3 1 k j)) :=
      congrArg₂ nearRow (funext fun k => X1_apply X i k) (funext fun k => funext fun j => Y1_apply Y k j)
    rw [e, column_apply _ _ _ (fun j => by rw [er]; exact hn j), er]

/-- Finite arguments, as jax computes it. -/
theorem real_of_fn (h : Pre_finite_points.fn (F := Ideal) X Y = fun _ => 1#1) :
    (∀ i, ∃ r : ℝ, X i = (r : EReal)) ∧ ∀ i, ∃ r : ℝ, Y i = (r : EReal) := by
  have h0 := congrFun h ix0
  dsimp only [Pre_finite_points.fn] at h0
  obtain ⟨h0, h1⟩ := (Whole.and_one _ _).1 h0
  refine ⟨fun i => ?_, fun i => ?_⟩
  · have e := Host.reduce_andi_all _ _ _ _ _ h0 i
    exact Whole.real_of_lt _ (by rw [← KernelTile.ofBits_top]; exact e)
  · have e := Host.reduce_andi_all _ _ _ _ _ h1 i
    exact Whole.real_of_lt _ (by rw [← KernelTile.ofBits_top]; exact e)

end Cert.Proof.NearestRef

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.Pre_idx_in_rows
public import proofs.«01_k».proof.Proof.Gen.RowsIdeal
public import proofs.«01_k».proof.Proof.Gen.RowsIdeal.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_coords
public import proofs.«01_k».proof.Proof.Gen.Nearest
public import proofs.«01_k».proof.Proof.Gen.Nearest.Frame
public import proofs.«01_k».proof.Proof.Gen.NearestIdeal
public import proofs.«01_k».proof.Proof.Gen.NearestIdeal.Value
public import proofs.«01_k».proof.Proof.Gen.PlacesIdeal
public import proofs.«01_k».proof.Proof.Gen.PlacesIdeal.Run
public import proofs.«01_k».proof.Proof.Gen.Pre_finite_points
public import proofs.«01_k».proof.Proof.GatherRows
public import proofs.«01_k».proof.Proof.Whole
public import proofs.«01_k».proof.Proof.NearestValue
public import proofs.«01_k».proof.Proof.NearestRef

@[expose] public section

noncomputable section

namespace Cert.Proof

open Idealize.ShloMosaic Idealize.SL.Sem

/-! ## The SparseCore gather calls -/

namespace Gather

open Cert.GatherIdeal Cert.Proof.GatherTile

variable {F : FTy → Type} [FloatOps F]

/-- The run of the two gather calls, from an index array whose words are all rows: each result at the rows its words name,
    the arguments unchanged, every counter at zero. -/
theorem run [∀ e, Nonempty (Elt F e)] (m : (ℓ : Loc nD τ sig) → Buf (Elt F) ℓ) (ρ : Dev nD → PrngReg) (hx : ∀ d i, (idxA m d i).toNat < 10000) :
    θ_run (Cert.GatherIdeal.defs (F := F)) (Cert.GatherIdeal.threads (F := F)) ⟨m, fun _ => 0, ρ⟩ fun r =>
      (∀ c : Dev nD, r.2.mem ((SparseCore.T c).loc main_v8) = rows (m ((SparseCore.T c).loc main_arg0)) (idxA m c) 0
        ∧ r.2.mem ((SparseCore.T c).loc main_v9) = rows (m ((SparseCore.T c).loc main_arg1)) (idxA m c) 1
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) ∧ r.2.sem = fun _ => 0 :=
  (θ_run Cert.GatherIdeal.defs _ _).mono (fun _ h => ⟨fun c => ⟨(h.1 c main_v8 rfl).trans (Vc_v8 m c), (h.1 c main_v9 rfl).trans (Vc_v9 m c),
      (h.1 c main_arg0 rfl).trans (Vc_arg0 m c), (h.1 c main_arg1 rfl).trans (Vc_arg1 m c), (h.1 c main_arg2 rfl).trans (Vc_arg2 m c)⟩, h.2⟩)
    (run_main m ρ (fun d y => by rw [Va_v2]; exact hx d _) (fun d y => by rw [Vb_v6]; exact hx d _))

/-- The gather calls' frame over the bit patterns. -/
theorem frame : Cert.quiescent_Gather := fun m ρ h =>
  (θ_run Cert.GatherIdeal.defs _ _).mono (fun _ h => ⟨fun c => (h.1 c).2.2, h.2⟩) (run (F := Bits) m ρ fun d => lt_of_fn _ _ _ (h d))

/-- The gather calls' frame over the extended reals. -/
theorem frameIdeal : Cert.quiescent_GatherIdeal := fun m ρ h =>
  (θ_run Cert.GatherIdeal.defs _ _).mono (fun _ h => ⟨fun c => (h.1 c).2.2, h.2⟩) (run (F := Ideal) m ρ fun d => lt_of_fn _ _ _ (h d))

/-- The reference's frame: it declares no semaphore. -/
theorem frameRows : Cert.quiescent_RowsIdeal := by
  intro m ρ _
  exact (θ_run Cert.RowsIdeal.defs _ _).mono (fun r h => ⟨fun c => (h c).2.2, sem_eq_zero_of_no_sems (by decide) r.2⟩)
    (Cert.RowsIdeal.Value.run m ρ)

/-- The gather calls and the reference have the same results: each row is the table's row that its index names. -/
theorem algebraic : Cert.algebraic_GatherIdeal_RowsIdeal := by
  intro m ρ m' ρ' hpre hargs
  have hx : ∀ d i, (idxA m d i).toNat < 10000 := fun d => lt_of_fn _ _ _ (hpre d)
  refine ⟨fun c => rows (m ((SparseCore.T c).loc main_arg0)) (idxA m c) 0, fun c => rows (m ((SparseCore.T c).loc main_arg1)) (idxA m c) 1, ?_, ?_⟩
  · exact (θ_run Cert.GatherIdeal.defs _ _).mono (fun _ h c => h.1 c) (run (F := Ideal) m ρ hx)
  · refine (θ_run Cert.RowsIdeal.defs _ _).mono (fun r h c => ?_) (Cert.RowsIdeal.Value.run m' ρ')
    obtain ⟨h8, h17, h0, h1, h2⟩ := h c
    obtain ⟨e0, e1, e2⟩ := hargs c
    refine ⟨h8.trans ?_, h17.trans ?_, h0, h1, h2⟩
    · rw [e0, e2]; exact GatherRows.result0 _ _ (hx c)
    · rw [e1, e2]; exact GatherRows.result1 _ _ (hx c)

end Gather

/-! ## The whole kernel -/

namespace Whole

open Cert.KernelIdeal Cert.Proof.KernelTile

/-- The kernel's run over the extended reals, from any arguments: each result at the rows of its table that the second-nearest
    indices name, the arguments unchanged, every counter at zero. -/
theorem run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ fun r =>
      (∀ c : Dev nD, r.2.mem ((SparseCore.T c).loc main_v20) = rows (m ((SparseCore.T c).loc main_arg0)) (idxA m c) 0
        ∧ r.2.mem ((SparseCore.T c).loc main_v21) = rows (m ((SparseCore.T c).loc main_arg1)) (idxA m c) 1
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)
        ∧ r.2.mem ((SparseCore.T c).loc main_arg3) = m ((SparseCore.T c).loc main_arg3)
        ∧ r.2.mem ((SparseCore.T c).loc main_arg4) = m ((SparseCore.T c).loc main_arg4)
        ∧ r.2.mem ((SparseCore.T c).loc main_arg5) = m ((SparseCore.T c).loc main_arg5)) ∧ r.2.sem = fun _ => 0 :=
  (θ_run Cert.KernelIdeal.defs _ _).mono (fun _ h => ⟨fun c => ⟨(h.1 c main_v20 rfl).trans (Vc_v20 m c), (h.1 c main_v21 rfl).trans (Vc_v21 m c),
      (h.1 c main_arg0 rfl).trans (Vc_arg0 m c), (h.1 c main_arg1 rfl).trans (Vc_arg1 m c), (h.1 c main_arg2 rfl).trans (Vc_arg2 m c),
      (h.1 c main_arg3 rfl).trans (Vc_arg3 m c), (h.1 c main_arg4 rfl).trans (Vc_arg4 m c), (h.1 c main_arg5 rfl).trans (Vc_arg5 m c)⟩, h.2⟩)
    (run_main m ρ (fun d y => by rw [Va_v14]; exact idxA_lt m d 0 _) (fun d y => by rw [Vb_v18]; exact idxA_lt m d 1 _))

/-- The kernel's frame over the extended reals. -/
theorem frameIdeal : Cert.quiescent_KernelIdeal := fun m ρ _ =>
  (θ_run Cert.KernelIdeal.defs _ _).mono (fun _ h => ⟨fun c => (h.1 c).2.2, h.2⟩) (run m ρ)

/-- The reference's frame: it declares no semaphore. -/
theorem frameReference : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run m ρ)

/-- The kernel and the reference have the same results where the coordinates are finite. -/
theorem algebraic : Cert.algebraic_KernelIdeal_ReferenceIdeal_pre_finite_coords := by
  intro m ρ m' ρ' hpre hargs
  refine ⟨fun c => rows (m ((SparseCore.T c).loc main_arg0)) (idxA m c) 0, fun c => rows (m ((SparseCore.T c).loc main_arg1)) (idxA m c) 1, ?_, ?_⟩
  · exact (θ_run Cert.KernelIdeal.defs _ _).mono (fun _ h c => h.1 c) (run m ρ)
  · refine (θ_run Cert.ReferenceIdeal.defs _ _).mono (fun r h c => ?_) (Cert.ReferenceIdeal.Value.run m' ρ')
    obtain ⟨h23, h47, hr⟩ := h c
    obtain ⟨e0, e1, e2, e3, e4, e5⟩ := hargs c
    obtain ⟨f2, f3, f4, f5⟩ := real_of_fn _ _ _ _ _ _ (hpre c)
    refine ⟨h23.trans ?_, h47.trans ?_, hr⟩
    · rw [e0, e2, e4]; exact result _ _ _ (fun _ _ => f4 _) (fun _ _ => f2 _) _ 0 (idxA_zero m c)
    · rw [e1, e3, e5]; exact result _ _ _ (fun _ _ => f5 _) (fun _ _ => f3 _) _ 1 (idxA_one m c)

end Whole

/-! ## The TensorCore call alone -/

namespace Nearest

open Cert.NearestIdeal

/-- The call's frame over the bit patterns. -/
theorem frame : Cert.quiescent_Nearest := fun m ρ _ => Cert.Nearest.Gen.frame (F := Bits) m ρ

/-- The call's frame over the extended reals. -/
theorem frameIdeal : Cert.quiescent_NearestIdeal := fun m ρ _ => Cert.NearestIdeal.Gen.frame (F := Ideal) m ρ

/-- The reference's frame: it declares no semaphore. -/
theorem framePlaces : Cert.quiescent_PlacesIdeal := by
  intro m ρ _
  exact (θ_run Cert.PlacesIdeal.defs _ _).mono (fun r h => ⟨fun c => (h c).2, sem_eq_zero_of_no_sems (by decide) r.2⟩)
    (Cert.PlacesIdeal.Value.run m ρ)

/-- The reference's indices are the call's, of finite arguments. -/
theorem places_second (X : S2x2560x3.Idx → Ideal .f32) (Y : S2x3x10000.Idx → Ideal .f32)
    (hX : ∀ i, ∃ r : ℝ, X i = (r : EReal)) (hY : ∀ i, ∃ r : ℝ, Y i = (r : EReal)) :
    NearestRef.places X Y = KernelTile.second (F := Ideal) X Y := by
  have h : ∀ q i, NearestRef.places X Y (ix3 q i 0) = KernelTile.second (F := Ideal) X Y (ix3 q i 0) := fun q i =>
    (NearestRef.places_apply X Y hX hY q i).trans
      (((KernelTile.second_apply X Y q i).trans (congrArg Second.word (Whole.distRow_eq _ _))).symm)
  funext y
  have e : y = ix3 (n0 := 2) (n1 := 2560) (n2 := 1) (y 0) (y 1) 0 := by
    have y2 : (y 2).val < 1 := (y 2).isLt
    funext a
    match a with
    | 0 => rfl
    | 1 => rfl
    | 2 => exact Fin.ext (by show (y 2).val = 0; omega)
  rw [e]
  exact h _ _

/-- The call and the reference name the same second-nearest points where the coordinates are finite. -/
theorem algebraic : Cert.algebraic_NearestIdeal_PlacesIdeal_pre_finite_points := by
  intro m ρ m' ρ' hpre hargs
  refine ⟨fun c => KernelTile.second (F := Ideal) (m ((c.tc : Thread nD τ).loc main_arg0)) (m ((c.tc : Thread nD τ).loc main_arg1)), ?_, ?_⟩
  · exact (θ_run Cert.NearestIdeal.defs _ _).mono (fun _ h c => ⟨(h c).1.trans (arr_eq m c), (h c).2⟩) (Cert.NearestIdeal.Value.run_blocks m ρ)
  · refine (θ_run Cert.PlacesIdeal.defs _ _).mono (fun r h c => ?_) (Cert.PlacesIdeal.Value.run m' ρ')
    obtain ⟨h44, hr⟩ := h c
    obtain ⟨e0, e1⟩ := hargs c
    obtain ⟨f0, f1⟩ := NearestRef.real_of_fn _ _ (hpre c)
    refine ⟨h44.trans ((NearestRef.places_eq m' c).trans ?_), hr⟩
    rw [e0, e1]
    exact places_second _ _ f0 f1

end Nearest

/-- `Cert.Claim` (Defs.lean). -/
theorem claim : Cert.Claim :=
  ⟨Cert.KernelIdeal.Gen.facts, Cert.ReferenceIdeal.Gen.facts, Cert.Gather.Gen.facts, Cert.GatherIdeal.Gen.facts, Cert.RowsIdeal.Gen.facts,
    Cert.Nearest.Gen.facts, Cert.NearestIdeal.Gen.facts, Cert.PlacesIdeal.Gen.facts,
    Cert.Pre_finite_coords.Gen.facts, Cert.Pre_idx_in_rows.Gen.facts, Cert.Pre_finite_points.Gen.facts,
    Whole.frameIdeal, fun m ρ _ => Whole.frameIdeal m ρ trivial, Whole.frameReference, fun m ρ _ => Whole.frameReference m ρ trivial,
    Gather.frame, Gather.frameIdeal, Gather.frameRows,
    Nearest.frame, Nearest.frameIdeal, fun m ρ _ => Nearest.frameIdeal m ρ trivial,
    Nearest.framePlaces, fun m ρ _ => Nearest.framePlaces m ρ trivial,
    Whole.algebraic, trivial, Gather.algebraic, trivial, Nearest.algebraic⟩

end Cert.Proof

end
